-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonzero_descriptors [hPre_nonzero_descriptors : Cert.Pre_nonzero_descriptors.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero_descriptors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_nonzero_descriptors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_nonzero_descriptors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_nonzero_descriptors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_nonzero_descriptors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero_descriptors [hPre_nonzero_descriptors : Cert.Pre_nonzero_descriptors.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero_descriptors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_nonzero_descriptors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_nonzero_descriptors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_nonzero_descriptors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_nonzero_descriptors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_nonzero_descriptors [hKernelIdeal : Cert.KernelIdeal.Facts] [hPre_nonzero_descriptors : Cert.Pre_nonzero_descriptors.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero_descriptors m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_nonzero_descriptors [hReferenceIdeal : Cert.ReferenceIdeal.Facts] [hPre_nonzero_descriptors : Cert.Pre_nonzero_descriptors.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero_descriptors m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_hw" .f32 0x3CE38E39#32 ((1 / 36 : ℝ) : EReal)
  ∧ IdealRules.named_const.Statement Cert.KernelIdeal.κ "inv_seg" .f32 0x3BB60B61#32 ((1 / 180 : ℝ) : EReal)
  ∧ IdealRules.named_const.Statement Cert.KernelIdeal.κ "inv_kq" .f32 0x3B2EC33E#32 ((1 / 375 : ℝ) : EReal)

def algebraic_KernelIdeal_ReferenceIdeal_pre_nonzero_descriptors [hKernelIdeal : Cert.KernelIdeal.Facts] [hReferenceIdeal : Cert.ReferenceIdeal.Facts] [hPre_nonzero_descriptors : Cert.Pre_nonzero_descriptors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero_descriptors m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_nonzero_descriptors : Cert.Pre_nonzero_descriptors.Facts),
    quiescent_Kernel (hKernel := hKernel)
    ∧ quiescent_KernelIdeal (hKernelIdeal := hKernelIdeal)
    ∧ quiescent_KernelIdeal_pre_nonzero_descriptors (hKernelIdeal := hKernelIdeal) (hPre_nonzero_descriptors := hPre_nonzero_descriptors)
    ∧ quiescent_ReferenceIdeal (hReferenceIdeal := hReferenceIdeal)
    ∧ quiescent_ReferenceIdeal_pre_nonzero_descriptors (hReferenceIdeal := hReferenceIdeal) (hPre_nonzero_descriptors := hPre_nonzero_descriptors)
    ∧ preserves_Kernel_KernelIdeal
    ∧ algebraic_KernelIdeal_ReferenceIdeal_pre_nonzero_descriptors (hKernelIdeal := hKernelIdeal) (hReferenceIdeal := hReferenceIdeal) (hPre_nonzero_descriptors := hPre_nonzero_descriptors)
-- ==== Pre_nonzero_descriptors.lean ====
abbrev S4x5x5x3x96x96 : Shape := ⟨6, ![4, 5, 5, 3, 96, 96]⟩
abbrev S4x75x3x96x96 : Shape := ⟨5, ![4, 75, 3, 96, 96]⟩
abbrev S512x3x16x16 : Shape := ⟨4, ![512, 3, 16, 16]⟩
abbrev S1 : Shape := ⟨1, ![1]⟩
abbrev S_ : Shape := ⟨0, ![]⟩
abbrev S100x3x96x96 : Shape := ⟨4, ![100, 3, 96, 96]⟩
abbrev S100x3x6x16x6x16 : Shape := ⟨6, ![100, 3, 6, 16, 6, 16]⟩
abbrev S100x6x6x512 : Shape := ⟨4, ![100, 6, 6, 512]⟩
abbrev S100x36x512 : Shape := ⟨3, ![100, 36, 512]⟩
abbrev S300x3x96x96 : Shape := ⟨4, ![300, 3, 96, 96]⟩
abbrev S300x3x6x16x6x16 : Shape := ⟨6, ![300, 3, 6, 16, 6, 16]⟩
abbrev S300x6x6x512 : Shape := ⟨4, ![300, 6, 6, 512]⟩
abbrev S300x36x512 : Shape := ⟨3, ![300, 36, 512]⟩
abbrev S100x36 : Shape := ⟨2, ![100, 36]⟩
abbrev S300x36 : Shape := ⟨2, ![300, 36]⟩

class Facts : Prop where
  shapeCasts_S4x5x5x3x96x96_S100x3x96x96 : S4x5x5x3x96x96.ShapeCasts S100x3x96x96
  shapeCasts_S100x3x96x96_S100x3x6x16x6x16 : S100x3x96x96.ShapeCasts S100x3x6x16x6x16
  bcast_S_S100x6x6x512 : S_.BroadcastsInDim S100x6x6x512 (![] : Fin 0 → Fin S100x6x6x512.rank)
  shapeCasts_S100x6x6x512_S100x36x512 : S100x6x6x512.ShapeCasts S100x36x512
  shapeCasts_S4x75x3x96x96_S300x3x96x96 : S4x75x3x96x96.ShapeCasts S300x3x96x96
  shapeCasts_S300x3x96x96_S300x3x6x16x6x16 : S300x3x96x96.ShapeCasts S300x3x6x16x6x16
  bcast_S_S300x6x6x512 : S_.BroadcastsInDim S300x6x6x512 (![] : Fin 0 → Fin S300x6x6x512.rank)
  shapeCasts_S300x6x6x512_S300x36x512 : S300x6x6x512.ShapeCasts S300x36x512
  reducesTo_S100x36x512_S100x36_d2 : S100x36x512.ReducesTo [2] S100x36
  h_S_ : 0 < S_.numel
  bcast_S_S100x36 : S_.BroadcastsInDim S100x36 (![] : Fin 0 → Fin S100x36.rank)
  reducesTo_S300x36x512_S300x36_d2 : S300x36x512.ReducesTo [2] S300x36
  bcast_S_S300x36 : S_.BroadcastsInDim S300x36 (![] : Fin 0 → Fin S300x36.rank)
  bcast_S_S1 : S_.BroadcastsInDim S1 (![] : Fin 0 → Fin S1.rank)
  dot_S100x3x6x16x6x16_S512x3x16x16_S100x6x6x512_135_123_024_0_n_n_wf : DotDims.WF S100x3x6x16x6x16 S512x3x16x16 S100x6x6x512 [1, 3, 5] [1, 2, 3] [0, 2, 4] [0] [] []
  dot_S300x3x6x16x6x16_S512x3x16x16_S300x6x6x512_135_123_024_0_n_n_wf : DotDims.WF S300x3x6x16x6x16 S512x3x16x16 S300x6x6x512 [1, 3, 5] [1, 2, 3] [0, 2, 4] [0] [] []

variable [Facts]

def dot_S100x3x6x16x6x16_S512x3x16x16_S100x6x6x512_135_123_024_0_n_n : DotDims S100x3x6x16x6x16 S512x3x16x16 S100x6x6x512 where
  lhsContracting := [1, 3, 5]
  rhsContracting := [1, 2, 3]
  lhsNonContracting := [0, 2, 4]
  rhsNonContracting := [0]
  lhsBatch := []
  rhsBatch := []
  wf := dot_S100x3x6x16x6x16_S512x3x16x16_S100x6x6x512_135_123_024_0_n_n_wf
def dot_S300x3x6x16x6x16_S512x3x16x16_S300x6x6x512_135_123_024_0_n_n : DotDims S300x3x6x16x6x16 S512x3x16x16 S300x6x6x512 where
  lhsContracting := [1, 3, 5]
  rhsContracting := [1, 2, 3]
  lhsNonContracting := [0, 2, 4]
  rhsNonContracting := [0]
  lhsBatch := []
  rhsBatch := []
  wf := dot_S300x3x6x16x6x16_S512x3x16x16_S300x6x6x512_135_123_024_0_n_n_wf
def fn_part1 {F : FTy → Type} [FloatOps F] (main_arg3 : FVec F S1 .f32) (main_arg4 : FVec F S1 .f32) (main_arg5 : FVec F S_ .f32) (main_v15 : IVec S100x36 1) (main_v17 : FVec F S300x36 .f32) (main_cst_4 : FVec F S_ .f32) : IVec S100x36 1 × IVec S300x36 1 × IVec S1 1 × IVec S1 1 × IVec S_ 1 :=
  let main_v18 : FVec F S300x36 .f32 := broadcastInDim S300x36 ![] bcast_S_S300x36 main_cst_4
  let main_v19 : IVec S300x36 1 := cmpf .ogt main_v17 main_v18
  let main_v20 : FVec F S1 .f32 := Host.absf main_arg3
  let main_cst_5 : FVec F S_ .f32 := constant S_ .f32 0x7F800000#32
  let main_v21 : FVec F S1 .f32 := broadcastInDim S1 ![] bcast_S_S1 main_cst_5
  let main_v22 : IVec S1 1 := cmpf .olt main_v20 main_v21
  let main_v23 : FVec F S1 .f32 := Host.absf main_arg4
  let main_cst_6 : FVec F S_ .f32 := constant S_ .f32 0x7F800000#32
  let main_v24 : FVec F S1 .f32 := broadcastInDim S1 ![] bcast_S_S1 main_cst_6
  let main_v25 : IVec S1 1 := cmpf .olt main_v23 main_v24
  let main_v26 : FVec F S_ .f32 := Host.absf main_arg5
  let main_cst_7 : FVec F S_ .f32 := constant S_ .f32 0x7F800000#32
  let main_v27 : IVec S_ 1 := cmpf .olt main_v26 main_cst_7
  (main_v15, main_v19, main_v22, main_v25, main_v27)

def fn {F : FTy → Type} [FloatOps F] (main_arg0 : FVec F S4x5x5x3x96x96 .f32) (main_arg1 : FVec F S4x75x3x96x96 .f32) (main_arg2 : FVec F S512x3x16x16 .f32) (main_arg3 : FVec F S1 .f32) (main_arg4 : FVec F S1 .f32) (main_arg5 : FVec F S_ .f32) : IVec S100x36 1 × IVec S300x36 1 × IVec S1 1 × IVec S1 1 × IVec S_ 1 :=
  let main_v0 : FVec F S100x3x96x96 .f32 := shapeCast S100x3x96x96 main_arg0 shapeCasts_S4x5x5x3x96x96_S100x3x96x96
  let main_v1 : FVec F S100x3x6x16x6x16 .f32 := shapeCast S100x3x6x16x6x16 main_v0 shapeCasts_S100x3x96x96_S100x3x6x16x6x16
  let main_v2 : FVec F S100x6x6x512 .f32 := (fun l r => Host.dotGeneral dot_S100x3x6x16x6x16_S512x3x16x16_S100x6x6x512_135_123_024_0_n_n none l r) main_v1 main_arg2
  let main_cst : FVec F S_ .f32 := constant S_ .f32 0x00000000#32
  let main_v3 : FVec F S100x6x6x512 .f32 := broadcastInDim S100x6x6x512 ![] bcast_S_S100x6x6x512 main_cst
  let main_v4 : FVec F S100x6x6x512 .f32 := maximumf main_v2 main_v3
  let main_v5 : FVec F S100x36x512 .f32 := shapeCast S100x36x512 main_v4 shapeCasts_S100x6x6x512_S100x36x512
  let main_v6 : FVec F S300x3x96x96 .f32 := shapeCast S300x3x96x96 main_arg1 shapeCasts_S4x75x3x96x96_S300x3x96x96
  let main_v7 : FVec F S300x3x6x16x6x16 .f32 := shapeCast S300x3x6x16x6x16 main_v6 shapeCasts_S300x3x96x96_S300x3x6x16x6x16
  let main_v8 : FVec F S300x6x6x512 .f32 := (fun l r => Host.dotGeneral dot_S300x3x6x16x6x16_S512x3x16x16_S300x6x6x512_135_123_024_0_n_n none l r) main_v7 main_arg2
  let main_cst_0 : FVec F S_ .f32 := constant S_ .f32 0x00000000#32
  let main_v9 : FVec F S300x6x6x512 .f32 := broadcastInDim S300x6x6x512 ![] bcast_S_S300x6x6x512 main_cst_0
  let main_v10 : FVec F S300x6x6x512 .f32 := maximumf main_v8 main_v9
  let main_v11 : FVec F S300x36x512 .f32 := shapeCast S300x36x512 main_v10 shapeCasts_S300x6x6x512_S300x36x512
  let main_v12 : FVec F S100x36x512 .f32 := mulf main_v5 main_v5
  let main_cst_1 : FVec F S_ .f32 := constant S_ .f32 0x00000000#32
  let main_v13 : FVec F S100x36 .f32 := (fun x v => Host.reduceAdd x v reducesTo_S100x36x512_S100x36_d2 h_S_) main_v12 main_cst_1
  let main_cst_2 : FVec F S_ .f32 := constant S_ .f32 0x0DA24260#32
  let main_v14 : FVec F S100x36 .f32 := broadcastInDim S100x36 ![] bcast_S_S100x36 main_cst_2
  let main_v15 : IVec S100x36 1 := cmpf .oge main_v13 main_v14
  let main_v16 : FVec F S300x36x512 .f32 := mulf main_v11 main_v11
  let main_cst_3 : FVec F S_ .f32 := constant S_ .f32 0x00000000#32
  let main_v17 : FVec F S300x36 .f32 := (fun x v => Host.reduceAdd x v reducesTo_S300x36x512_S300x36_d2 h_S_) main_v16 main_cst_3
  let main_cst_4 : FVec F S_ .f32 := constant S_ .f32 0x00000000#32
  fn_part1 (F := F) main_arg3 main_arg4 main_arg5 main_v15 main_v17 main_cst_4
-- ==== Kernel.lean ====
abbrev S4x5x5x3x96x96 : Shape := ⟨6, ![4, 5, 5, 3, 96, 96]⟩
abbrev S4x75x3x96x96 : Shape := ⟨5, ![4, 75, 3, 96, 96]⟩
abbrev S512x3x16x16 : Shape := ⟨4, ![512, 3, 16, 16]⟩
abbrev S1 : Shape := ⟨1, ![1]⟩
abbrev S_ : Shape := ⟨0, ![]⟩
abbrev S3x16x16x512 : Shape := ⟨4, ![3, 16, 16, 512]⟩
abbrev S6x6 : Shape := ⟨2, ![6, 6]⟩
abbrev S3x16x1x16x1x512 : Shape := ⟨6, ![3, 16, 1, 16, 1, 512]⟩
abbrev S1x1x6x1x6x1 : Shape := ⟨6, ![1, 1, 6, 1, 6, 1]⟩
abbrev S3x16x6x16x6x512 : Shape := ⟨6, ![3, 16, 6, 16, 6, 512]⟩
abbrev S4608x3072 : Shape := ⟨2, ![4608, 3072]⟩
abbrev S100x27648 : Shape := ⟨2, ![100, 27648]⟩
abbrev S300x27648 : Shape := ⟨2, ![300, 27648]⟩
abbrev S100x6x3072 : Shape := ⟨3, ![100, 6, 3072]⟩
abbrev S4608x512 : Shape := ⟨2, ![4608, 512]⟩
abbrev S100x6x512 : Shape := ⟨3, ![100, 6, 512]⟩
abbrev S100x512 : Shape := ⟨2, ![100, 512]⟩
abbrev S100x1536 : Shape := ⟨2, ![100, 1536]⟩
abbrev S1536x512 : Shape := ⟨2, ![1536, 512]⟩
abbrev S100x1x512 : Shape := ⟨3, ![100, 1, 512]⟩
abbrev S300x6x3072 : Shape := ⟨3, ![300, 6, 3072]⟩
abbrev S300x6x512 : Shape := ⟨3, ![300, 6, 512]⟩
abbrev S300x512 : Shape := ⟨2, ![300, 512]⟩
abbrev S300x1536 : Shape := ⟨2, ![300, 1536]⟩
abbrev S300x1x512 : Shape := ⟨3, ![300, 1, 512]⟩
abbrev S4x5x180x512 : Shape := ⟨4, ![4, 5, 180, 512]⟩
abbrev S4x5x192x512 : Shape := ⟨4, ![4, 5, 192, 512]⟩
abbrev S4x960x512 : Shape := ⟨3, ![4, 960, 512]⟩
abbrev S4x2700x512 : Shape := ⟨3, ![4, 2700, 512]⟩
abbrev S2 : Shape := ⟨1, ![2]⟩
abbrev S4x75x5 : Shape := ⟨3, ![4, 75, 5]⟩
abbrev S1x2700x512 : Shape := ⟨3, ![1, 2700, 512]⟩
abbrev S1x960x512 : Shape := ⟨3, ![1, 960, 512]⟩
abbrev S1x75x5 : Shape := ⟨3, ![1, 75, 5]⟩
abbrev S2700x512 : Shape := ⟨2, ![2700, 512]⟩
abbrev S960x512 : Shape := ⟨2, ![960, 512]⟩
abbrev S75x2700 : Shape := ⟨2, ![75, 2700]⟩
abbrev S5x960 : Shape := ⟨2, ![5, 960]⟩
abbrev S75x512 : Shape := ⟨2, ![75, 512]⟩
abbrev S5x512 : Shape := ⟨2, ![5, 512]⟩
abbrev S75 : Shape := ⟨1, ![75]⟩
abbrev S75x1 : Shape := ⟨2, ![75, 1]⟩
abbrev S5 : Shape := ⟨1, ![5]⟩
abbrev S5x1 : Shape := ⟨2, ![5, 1]⟩
abbrev S75x5 : Shape := ⟨2, ![75, 5]⟩
abbrev S2700 : Shape := ⟨1, ![2700]⟩
abbrev S2700x1 : Shape := ⟨2, ![2700, 1]⟩
abbrev S960 : Shape := ⟨1, ![960]⟩
abbrev S960x1 : Shape := ⟨2, ![960, 1]⟩
abbrev S960x2700 : Shape := ⟨2, ![960, 2700]⟩
abbrev S192x2700 : Shape := ⟨2, ![192, 2700]⟩
abbrev S1x2700 : Shape := ⟨2, ![1, 2700]⟩
abbrev S5x2700 : Shape := ⟨2, ![5, 2700]⟩

abbrev nBuf : Space → Nat
  | .hbm => 39
  | .vmem => 16
  | .smem => 1
  | _ => 0

abbrev bufTy : (tb : Table) → Fin (tcTables nBuf tb) → BufTy
  | .hbm, ⟨0, _⟩ => ⟨S4x5x5x3x96x96, .f32⟩
  | .hbm, ⟨1, _⟩ => ⟨S4x75x3x96x96, .f32⟩
  | .hbm, ⟨2, _⟩ => ⟨S512x3x16x16, .f32⟩
  | .hbm, ⟨3, _⟩ => ⟨S1, .f32⟩
  | .hbm, ⟨4, _⟩ => ⟨S1, .f32⟩
  | .hbm, ⟨5, _⟩ => ⟨S_, .f32⟩
  | .hbm, ⟨6, _⟩ => ⟨S512x3x16x16, .bf16⟩
  | .hbm, ⟨7, _⟩ => ⟨S3x16x16x512, .bf16⟩
  | .hbm, ⟨8, _⟩ => ⟨S6x6, .i32⟩
  | .hbm, ⟨9, _⟩ => ⟨S6x6, .i32⟩
  | .hbm, ⟨10, _⟩ => ⟨S_, .i32⟩
  | .hbm, ⟨11, _⟩ => ⟨S6x6, .i32⟩
  | .hbm, ⟨12, _⟩ => ⟨S6x6, .i32⟩
  | .hbm, ⟨13, _⟩ => ⟨S6x6, .i1⟩
  | .hbm, ⟨14, _⟩ => ⟨S6x6, .bf16⟩
  | .hbm, ⟨15, _⟩ => ⟨S3x16x1x16x1x512, .bf16⟩
  | .hbm, ⟨16, _⟩ => ⟨S1x1x6x1x6x1, .bf16⟩
  | .hbm, ⟨17, _⟩ => ⟨S3x16x6x16x6x512, .bf16⟩
  | .hbm, ⟨18, _⟩ => ⟨S3x16x6x16x6x512, .bf16⟩
  | .hbm, ⟨19, _⟩ => ⟨S3x16x6x16x6x512, .bf16⟩
  | .hbm, ⟨20, _⟩ => ⟨S4608x3072, .bf16⟩
  | .hbm, ⟨21, _⟩ => ⟨S100x27648, .f32⟩
  | .hbm, ⟨22, _⟩ => ⟨S300x27648, .f32⟩
  | .hbm, ⟨23, _⟩ => ⟨S100x6x3072, .f32⟩
  | .hbm, ⟨24, _⟩ => ⟨S300x6x3072, .f32⟩
  | .hbm, ⟨25, _⟩ => ⟨S4x5x180x512, .f32⟩
  | .hbm, ⟨26, _⟩ => ⟨S_, .i32⟩
  | .hbm, ⟨27, _⟩ => ⟨S_, .f32⟩
  | .hbm, ⟨28, _⟩ => ⟨S4x5x192x512, .f32⟩
  | .hbm, ⟨29, _⟩ => ⟨S4x960x512, .f32⟩
  | .hbm, ⟨30, _⟩ => ⟨S4x2700x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S2, .f32⟩
  | .hbm, ⟨38, _⟩ => ⟨S4x75x5, .f32⟩
  | .local _ .vmem, ⟨0, _⟩ => ⟨S100x27648, .f32⟩
  | .local _ .vmem, ⟨1, _⟩ => ⟨S4608x512, .bf16⟩
  | .local _ .vmem, ⟨2, _⟩ => ⟨S4608x512, .bf16⟩
  | .local _ .vmem, ⟨3, _⟩ => ⟨S100x6x512, .f32⟩
  | .local _ .vmem, ⟨4, _⟩ => ⟨S100x6x512, .f32⟩
  | .local _ .vmem, ⟨5, _⟩ => ⟨S300x27648, .f32⟩
  | .local _ .vmem, ⟨6, _⟩ => ⟨S4608x512, .bf16⟩
  | .local _ .vmem, ⟨7, _⟩ => ⟨S4608x512, .bf16⟩
  | .local _ .vmem, ⟨8, _⟩ => ⟨S300x6x512, .f32⟩
  | .local _ .vmem, ⟨9, _⟩ => ⟨S300x6x512, .f32⟩
  | .local _ .vmem, ⟨10, _⟩ => ⟨S1x2700x512, .f32⟩
  | .local _ .vmem, ⟨11, _⟩ => ⟨S1x2700x512, .f32⟩
  | .local _ .vmem, ⟨12, _⟩ => ⟨S1x960x512, .f32⟩
  | .local _ .vmem, ⟨13, _⟩ => ⟨S1x960x512, .f32⟩
  | .local _ .vmem, ⟨14, _⟩ => ⟨S1x75x5, .f32⟩
  | .local _ .vmem, ⟨15, _⟩ => ⟨S1x75x5, .f32⟩
  | .local _ .smem, ⟨0, _⟩ => ⟨S2, .f32⟩
  | _, _ => ⟨S4x5x5x3x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S100x27648 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4608x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S100x6x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S300x27648 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4608x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S300x6x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .smem S2 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x2700x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x960x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x75x5 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== KernelIdeal.lean ====
variable {F : FTy → Type} [FloatOps F] [Named F]
def κ : String → Option EReal := fun
  | "inv_hw" => some ((1 / 36 : ℝ) : EReal)
  | "inv_kq" => some ((1 / 375 : ℝ) : EReal)
  | "inv_seg" => some ((1 / 180 : ℝ) : EReal)
  | _ => none
-- ==== ReferenceIdeal.lean ====
abbrev S4x5x5x3x96x96 : Shape := ⟨6, ![4, 5, 5, 3, 96, 96]⟩
abbrev S4x75x3x96x96 : Shape := ⟨5, ![4, 75, 3, 96, 96]⟩
abbrev S512x3x16x16 : Shape := ⟨4, ![512, 3, 16, 16]⟩
abbrev S1 : Shape := ⟨1, ![1]⟩
abbrev S_ : Shape := ⟨0, ![]⟩
abbrev S100x3x96x96 : Shape := ⟨4, ![100, 3, 96, 96]⟩
abbrev S100x3x6x16x6x16 : Shape := ⟨6, ![100, 3, 6, 16, 6, 16]⟩
abbrev S100x6x6x512 : Shape := ⟨4, ![100, 6, 6, 512]⟩
abbrev S100x36x512 : Shape := ⟨3, ![100, 36, 512]⟩
abbrev S300x3x96x96 : Shape := ⟨4, ![300, 3, 96, 96]⟩
abbrev S300x3x6x16x6x16 : Shape := ⟨6, ![300, 3, 6, 16, 6, 16]⟩
abbrev S300x6x6x512 : Shape := ⟨4, ![300, 6, 6, 512]⟩
abbrev S300x36x512 : Shape := ⟨3, ![300, 36, 512]⟩
abbrev S4x5x5x36x512 : Shape := ⟨5, ![4, 5, 5, 36, 512]⟩
abbrev S4x75x36x512 : Shape := ⟨4, ![4, 75, 36, 512]⟩
abbrev S4x5x5x512 : Shape := ⟨4, ![4, 5, 5, 512]⟩
abbrev S4x5x512 : Shape := ⟨3, ![4, 5, 512]⟩
abbrev S4x75x512 : Shape := ⟨3, ![4, 75, 512]⟩
abbrev S4x75 : Shape := ⟨2, ![4, 75]⟩
abbrev S4x75x1 : Shape := ⟨3, ![4, 75, 1]⟩
abbrev S4x5 : Shape := ⟨2, ![4, 5]⟩
abbrev S4x5x1 : Shape := ⟨3, ![4, 5, 1]⟩
abbrev S4x75x5 : Shape := ⟨3, ![4, 75, 5]⟩
abbrev S4x5x180x512 : Shape := ⟨4, ![4, 5, 180, 512]⟩
abbrev S4x75x36 : Shape := ⟨3, ![4, 75, 36]⟩
abbrev S4x75x36x1 : Shape := ⟨4, ![4, 75, 36, 1]⟩
abbrev S4x5x180 : Shape := ⟨3, ![4, 5, 180]⟩
abbrev S4x5x180x1 : Shape := ⟨4, ![4, 5, 180, 1]⟩
abbrev S4x5x180x75x36 : Shape := ⟨5, ![4, 5, 180, 75, 36]⟩
abbrev S4x75x5x36x180 : Shape := ⟨5, ![4, 75, 5, 36, 180]⟩
abbrev S4x75x5x36x5 : Shape := ⟨5, ![4, 75, 5, 36, 5]⟩

abbrev nBuf : Space → Nat
  | .hbm => 87
  | .vmem => 0
  | .smem => 0
  | _ => 0

abbrev bufTy : (tb : Table) → Fin (tcTables nBuf tb) → BufTy
  | .hbm, ⟨0, _⟩ => ⟨S4x5x5x3x96x96, .f32⟩
  | .hbm, ⟨1, _⟩ => ⟨S4x75x3x96x96, .f32⟩
  | .hbm, ⟨2, _⟩ => ⟨S512x3x16x16, .f32⟩
  | .hbm, ⟨3, _⟩ => ⟨S1, .f32⟩
  | .hbm, ⟨4, _⟩ => ⟨S1, .f32⟩
  | .hbm, ⟨5, _⟩ => ⟨S_, .f32⟩
  | .hbm, ⟨6, _⟩ => ⟨S100x3x96x96, .f32⟩
  | .hbm, ⟨7, _⟩ => ⟨S100x3x6x16x6x16, .f32⟩
  | .hbm, ⟨8, _⟩ => ⟨S100x6x6x512, .f32⟩
  | .hbm, ⟨9, _⟩ => ⟨S_, .f32⟩
  | .hbm, ⟨10, _⟩ => ⟨S100x6x6x512, .f32⟩
  | .hbm, ⟨11, _⟩ => ⟨S100x6x6x512, .f32⟩
  | .hbm, ⟨12, _⟩ => ⟨S100x36x512, .f32⟩
  | .hbm, ⟨13, _⟩ => ⟨S300x3x96x96, .f32⟩
  | .hbm, ⟨14, _⟩ => ⟨S300x3x6x16x6x16, .f32⟩
  | .hbm, ⟨15, _⟩ => ⟨S300x6x6x512, .f32⟩
  | .hbm, ⟨16, _⟩ => ⟨S_, .f32⟩
  | .hbm, ⟨17, _⟩ => ⟨S300x6x6x512, .f32⟩
  | .hbm, ⟨18, _⟩ => ⟨S300x6x6x512, .f32⟩
  | .hbm, ⟨19, _⟩ => ⟨S300x36x512, .f32⟩
  | .hbm, ⟨20, _⟩ => ⟨S4x5x5x36x512, .f32⟩
  | .hbm, ⟨21, _⟩ => ⟨S4x75x36x512, .f32⟩
  | .hbm, ⟨22, _⟩ => ⟨S_, .f32⟩
  | .hbm, ⟨23, _⟩ => ⟨S4x5x5x512, .f32⟩
  | .hbm, ⟨24, _⟩ => ⟨S_, .f32⟩
  | .hbm, ⟨25, _⟩ => ⟨S4x5x5x512, .f32⟩
  | .hbm, ⟨26, _⟩ => ⟨S4x5x5x512, .f32⟩
  | .hbm, ⟨27, _⟩ => ⟨S_, .f32⟩
  | .hbm, ⟨28, _⟩ => ⟨S4x5x512, .f32⟩
  | .hbm, ⟨29, _⟩ => ⟨S_, .f32⟩
  | .hbm, ⟨30, _⟩ => ⟨S4x5x512, .f32⟩
  | .hbm, ⟨31, _⟩ => ⟨S4x5x512, .f32⟩
  | .hbm, ⟨32, _⟩ => ⟨S_, .f32⟩
  | .hbm, ⟨33, _⟩ => ⟨S4x75x512, .f32⟩
  | .hbm, ⟨34, _⟩ => ⟨S_, .f32⟩
  | .hbm, ⟨35, _⟩ => ⟨S4x75x512, .f32⟩
  | .hbm, ⟨36, _⟩ => ⟨S4x75x512, .f32⟩
  | .hbm, ⟨37, _⟩ => ⟨S4x75x512, .f32⟩
  | .hbm, ⟨38, _⟩ => ⟨S_, .f32⟩
  | .hbm, ⟨39, _⟩ => ⟨S4x75, .f32⟩
  | .hbm, ⟨40, _⟩ => ⟨S4x75x1, .f32⟩
  | .hbm, ⟨41, _⟩ => ⟨S4x75x1, .f32⟩
  | .hbm, ⟨42, _⟩ => ⟨S4x75x512, .f32⟩
  | .hbm, ⟨43, _⟩ => ⟨S4x75x512, .f32⟩
  | .hbm, ⟨44, _⟩ => ⟨S4x5x512, .f32⟩
  | .hbm, ⟨45, _⟩ => ⟨S_, .f32⟩
  | .hbm, ⟨46, _⟩ => ⟨S4x5, .f32⟩
  | .hbm, ⟨47, _⟩ => ⟨S4x5x1, .f32⟩
  | .hbm, ⟨48, _⟩ => ⟨S4x5x1, .f32⟩
  | .hbm, ⟨49, _⟩ => ⟨S4x5x512, .f32⟩
  | .hbm, ⟨50, _⟩ => ⟨S4x5x512, .f32⟩
  | .hbm, ⟨51, _⟩ => ⟨S4x75x5, .f32⟩
  | .hbm, ⟨52, _⟩ => ⟨S4x5x180x512, .f32⟩
  | .hbm, ⟨53, _⟩ => ⟨S4x75x36x512, .f32⟩
  | .hbm, ⟨54, _⟩ => ⟨S_, .f32⟩
  | .hbm, ⟨55, _⟩ => ⟨S4x75x36, .f32⟩
  | .hbm, ⟨56, _⟩ => ⟨S4x75x36x1, .f32⟩
  | .hbm, ⟨57, _⟩ => ⟨S4x75x36x1, .f32⟩
  | .hbm, ⟨58, _⟩ => ⟨S4x75x36x512, .f32⟩
  | .hbm, ⟨59, _⟩ => ⟨S4x75x36x512, .f32⟩
  | .hbm, ⟨60, _⟩ => ⟨S4x5x180x512, .f32⟩
  | .hbm, ⟨61, _⟩ => ⟨S_, .f32⟩
  | .hbm, ⟨62, _⟩ => ⟨S4x5x180, .f32⟩
  | .hbm, ⟨63, _⟩ => ⟨S4x5x180x1, .f32⟩
  | .hbm, ⟨64, _⟩ => ⟨S4x5x180x1, .f32⟩
  | .hbm, ⟨65, _⟩ => ⟨S4x5x180x512, .f32⟩
  | .hbm, ⟨66, _⟩ => ⟨S4x5x180x512, .f32⟩
  | .hbm, ⟨67, _⟩ => ⟨S4x5x180x75x36, .f32⟩
  | .hbm, ⟨68, _⟩ => ⟨S4x75x5x36x180, .f32⟩
  | .hbm, ⟨69, _⟩ => ⟨S4x75x5x36x5, .f32⟩
  | .hbm, ⟨70, _⟩ => ⟨S4x75x5x36x5, .i32⟩
  | .hbm, ⟨71, _⟩ => ⟨S4x75x5x36x5, .f32⟩
  | .hbm, ⟨72, _⟩ => ⟨S_, .f32⟩
  | .hbm, ⟨73, _⟩ => ⟨S4x75x5, .f32⟩
  | .hbm, ⟨74, _⟩ => ⟨S4x75x5, .f32⟩
  | .hbm, ⟨75, _⟩ => ⟨S_, .f32⟩
  | .hbm, ⟨76, _⟩ => ⟨S4x75x5, .f32⟩
  | .hbm, ⟨77, _⟩ => ⟨S4x75x5, .f32⟩
  | .hbm, ⟨78, _⟩ => ⟨S_, .f32⟩
  | .hbm, ⟨79, _⟩ => ⟨S4x75x5, .f32⟩
  | .hbm, ⟨80, _⟩ => ⟨S4x75x5, .f32⟩
  | .hbm, ⟨81, _⟩ => ⟨S_, .f32⟩
  | .hbm, ⟨82, _⟩ => ⟨S4x75x5, .f32⟩
  | .hbm, ⟨83, _⟩ => ⟨S4x75x5, .f32⟩
  | .hbm, ⟨84, _⟩ => ⟨S4x75x5, .f32⟩
  | .hbm, ⟨85, _⟩ => ⟨S4x75x5, .f32⟩
  | .hbm, ⟨86, _⟩ => ⟨S4x75x5, .f32⟩
  | _, _ => ⟨S4x5x5x3x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_values : Ref sig .tc := ⟨.hbm, 69, rfl⟩
abbrev main_indices : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Proof.Frames.lean ====
/-
  The frame claims of the three programs and the ledger of the three named reciprocals.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Frames

/-- The printed program runs, keeps its arguments and leaves every semaphore at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference: a host program with no semaphores, run operation by operation. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The three reciprocals 1/36, 1/180 and 1/375 are the values the table gives their names. -/
theorem preserves : Cert.preserves_Kernel_KernelIdeal :=
  ⟨IdealRules.named_const.statement Cert.KernelIdeal.κ "inv_hw" .f32 0x3CE38E39#32 ((1 / 36 : ℝ) : EReal) rfl,
   IdealRules.named_const.statement Cert.KernelIdeal.κ "inv_seg" .f32 0x3BB60B61#32 ((1 / 180 : ℝ) : EReal) rfl,
   IdealRules.named_const.statement Cert.KernelIdeal.κ "inv_kq" .f32 0x3B2EC33E#32 ((1 / 375 : ℝ) : EReal) rfl⟩

end Cert.Proof.Frames

end
-- ==== Proof.KernelRun.lean ====
/-
  The run of the kernel's idealization with its result: the generated frame's launch, read at the result array as well.
-/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (m : (ℓ : Loc nD τ sig) → Buf (Elt F) ℓ) (ρ : Dev nD → PrngReg)

set_option backward.isDefEq.respectTransparency.types false in
/-- Every execution ends with the result array at the last boundary's contents and the arguments as launched. -/
theorem run : θ_run defs (onTc (τ := τ) (main (F := F))) ⟨m, fun _ => 0, ρ⟩ (fun r => ∀ c : Dev nD,
      r.2.mem ((c.tc : Thread nD τ).loc main_v29) = W7 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v29 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Proof.KernelRun

end
-- ==== Proof.EncoderBlock.lean ====
/-
  What the encoder's body computes from its two blocks, at the exact numbers: for each image and each row of
  patches, three products over 1536 pixels added up and cut off at zero.
-/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.Proof.EncoderBlock

open Cert.KernelIdeal Cert.KernelIdeal.Gen

/-- One output entry from an image's row and a column of the wide weights: over each of the three colours, the
1536 pixels of the row of patches `y`. -/
def entry {n : ℕ} {m : ℕ} (x : (⟨2, ![n, 27648]⟩ : Shape).Idx → EReal) (w : (⟨2, ![4608, m]⟩ : Shape).Idx → EReal)
    (i : Fin n) (y : Fin 6) (c : Fin m) : EReal :=
  max (∑ k : Fin 1536, x (ix2 i (⟨y.val * 1536 + k.val, by omega⟩ : Fin 27648)) * w (ix2 (⟨k.val, by omega⟩ : Fin 4608) c)
      + ∑ k : Fin 1536, x (ix2 i (⟨9216 + y.val * 1536 + k.val, by omega⟩ : Fin 27648)) * w (ix2 (⟨1536 + k.val, by omega⟩ : Fin 4608) c)
      + ∑ k : Fin 1536, x (ix2 i (⟨18432 + y.val * 1536 + k.val, by omega⟩ : Fin 27648)) * w (ix2 (⟨3072 + k.val, by omega⟩ : Fin 4608) c)) 0

/-- One of the six stores of the shots' encoder. -/
theorem pay0 (a0 a1 a2 : Vec Ideal S100x1536 .f32) (b0 b1 b2 : Vec Ideal S1536x512 .bf16) (i : Fin 100) (u : Fin 1) (c : Fin 512) :
    k0_pay2 (F := Ideal) a0 b0 a1 b1 a2 b2 (ix3 i u c)
      = max (∑ k : Fin 1536, a0 (ix2 i k) * b0 (ix2 k c) + ∑ k : Fin 1536, a1 (ix2 i k) * b1 (ix2 k c)
        + ∑ k : Fin 1536, a2 (ix2 i k) * b2 (ix2 k c)) 0 := by
  unfold k0_pay2
  pointwise

/-- The same at the pixels and weights the store's three products load: the row of patches `y`. -/
theorem piece0 (x0 : Vec Ideal S100x27648 .f32) (x1 : Vec Ideal S4608x512 .bf16) (i : Fin 100) (y : Fin 6) (c : Fin 512)
    (x : S100x1x512.Idx) (o0 o1 o2 : ℕ) (e0 : o0 = y.val * 1536) (e1 : o1 = 9216 + y.val * 1536) (e2 : o2 = 18432 + y.val * 1536)
    (h0 : i.val = (x 0).val) (h2 : c.val = (x 2).val)
    (i0 : ∀ a, (![0, o0] : Fin 2 → ℕ) a + S100x1536.size a ≤ S100x27648.size a)
    (i1 : ∀ a, (![0, o1] : Fin 2 → ℕ) a + S100x1536.size a ≤ S100x27648.size a)
    (i2 : ∀ a, (![0, o2] : Fin 2 → ℕ) a + S100x1536.size a ≤ S100x27648.size a) :
    k0_pay2 (F := Ideal) (View.ld x0 (Rect.unit (s := S100x27648) ![0, o0] S100x1536.size i0)) (View.ld x1 r0_1)
      (View.ld x0 (Rect.unit (s := S100x27648) ![0, o1] S100x1536.size i1)) (View.ld x1 r0_3)
      (View.ld x0 (Rect.unit (s := S100x27648) ![0, o2] S100x1536.size i2)) (View.ld x1 r0_5) x = entry x0 x1 i y c := by
  subst e0 e1 e2
  obtain ⟨i', u, c', rfl⟩ : ∃ (i' : Fin 100) (u : Fin 1) (c' : Fin 512), x = ix3 i' u c' := ⟨x 0, x 1, x 2, by funext a; fin_cases a <;> rfl⟩
  obtain rfl : i = i' := Fin.ext h0
  obtain rfl : c = c' := Fin.ext h2
  rw [pay0]
  unfold entry
  congr 1
  congr 1
  · congr 1
    · refine Finset.sum_congr rfl fun k _ => ?_
      congr 1 <;> exact View.ld_unit_apply_of _ _ _ _ _ _ fun a => by fin_cases a <;> simp
    · refine Finset.sum_congr rfl fun k _ => ?_
      congr 1 <;> exact View.ld_unit_apply_of _ _ _ _ _ _ fun a => by fin_cases a <;> simp
  · refine Finset.sum_congr rfl fun k _ => ?_
    congr 1 <;> exact View.ld_unit_apply_of _ _ _ _ _ _ fun a => by fin_cases a <;> simp

/-- What the body leaves in its output block. -/
theorem out0_apply (x0 : Vec Ideal S100x27648 .f32) (x1 : Vec Ideal S4608x512 .bf16) (i : Fin 100) (y : Fin 6) (c : Fin 512) :
    out0_2 x0 x1 (ix3 i y c) = entry x0 x1 i y c := by
  canon_tiles x h
  all_goals
    have hy : y.val = _ := h1
    exact piece0 x0 x1 i y c x _ _ _ (by omega) (by omega) (by omega) h0 h2 _ _ _

/-- One of the six stores of the queries' encoder. -/
theorem pay1 (a0 a1 a2 : Vec Ideal S300x1536 .f32) (b0 b1 b2 : Vec Ideal S1536x512 .bf16) (i : Fin 300) (u : Fin 1) (c : Fin 512) :
    k1_pay2 (F := Ideal) a0 b0 a1 b1 a2 b2 (ix3 i u c)
      = max (∑ k : Fin 1536, a0 (ix2 i k) * b0 (ix2 k c) + ∑ k : Fin 1536, a1 (ix2 i k) * b1 (ix2 k c)
        + ∑ k : Fin 1536, a2 (ix2 i k) * b2 (ix2 k c)) 0 := by
  unfold k1_pay2
  pointwise

/-- The same at the pixels and weights the store's three products load: the row of patches `y`. -/
theorem piece1 (x0 : Vec Ideal S300x27648 .f32) (x1 : Vec Ideal S4608x512 .bf16) (i : Fin 300) (y : Fin 6) (c : Fin 512)
    (x : S300x1x512.Idx) (o0 o1 o2 : ℕ) (e0 : o0 = y.val * 1536) (e1 : o1 = 9216 + y.val * 1536) (e2 : o2 = 18432 + y.val * 1536)
    (h0 : i.val = (x 0).val) (h2 : c.val = (x 2).val)
    (i0 : ∀ a, (![0, o0] : Fin 2 → ℕ) a + S300x1536.size a ≤ S300x27648.size a)
    (i1 : ∀ a, (![0, o1] : Fin 2 → ℕ) a + S300x1536.size a ≤ S300x27648.size a)
    (i2 : ∀ a, (![0, o2] : Fin 2 → ℕ) a + S300x1536.size a ≤ S300x27648.size a) :
    k1_pay2 (F := Ideal) (View.ld x0 (Rect.unit (s := S300x27648) ![0, o0] S300x1536.size i0)) (View.ld x1 r1_1)
      (View.ld x0 (Rect.unit (s := S300x27648) ![0, o1] S300x1536.size i1)) (View.ld x1 r1_3)
      (View.ld x0 (Rect.unit (s := S300x27648) ![0, o2] S300x1536.size i2)) (View.ld x1 r1_5) x = entry x0 x1 i y c := by
  subst e0 e1 e2
  obtain ⟨i', u, c', rfl⟩ : ∃ (i' : Fin 300) (u : Fin 1) (c' : Fin 512), x = ix3 i' u c' := ⟨x 0, x 1, x 2, by funext a; fin_cases a <;> rfl⟩
  obtain rfl : i = i' := Fin.ext h0
  obtain rfl : c = c' := Fin.ext h2
  rw [pay1]
  unfold entry
  congr 1
  congr 1
  · congr 1
    · refine Finset.sum_congr rfl fun k _ => ?_
      congr 1 <;> exact View.ld_unit_apply_of _ _ _ _ _ _ fun a => by fin_cases a <;> simp
    · refine Finset.sum_congr rfl fun k _ => ?_
      congr 1 <;> exact View.ld_unit_apply_of _ _ _ _ _ _ fun a => by fin_cases a <;> simp
  · refine Finset.sum_congr rfl fun k _ => ?_
    congr 1 <;> exact View.ld_unit_apply_of _ _ _ _ _ _ fun a => by fin_cases a <;> simp

/-- What the body leaves in its output block. -/
theorem out1_apply (x0 : Vec Ideal S300x27648 .f32) (x1 : Vec Ideal S4608x512 .bf16) (i : Fin 300) (y : Fin 6) (c : Fin 512) :
    out1_2 x0 x1 (ix3 i y c) = entry x0 x1 i y c := by
  canon_tiles x h
  all_goals
    have hy : y.val = _ := h1
    exact piece1 x0 x1 i y c x _ _ _ (by omega) (by omega) (by omega) h0 h2 _ _ _

end Cert.Proof.EncoderBlock

end
-- ==== Proof.Rounds.lean ====
/-
  The rounds of the top-five search in the matching kernel, in one vocabulary: the kernel's text
  repeats the same round five times for each of five ways, and here every way is shown to be five uses of one
  function on that way's 192 rows of the product table.
-/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.Proof.Rounds

open Cert.KernelIdeal Cert.KernelIdeal.Gen

variable {F : FTy → Type} [FloatOps F]

/-- The largest entry of every column. -/
def rowMax (cur : FVec F S192x2700 .f32) : FVec F S1x2700 .f32 :=
  shapeCast S1x2700 (multiReduction .maximumf [0] S2700 cur 0xFF800000#32 reduces_S192x2700_S2700 (.inl rfl) rfl) shapeCasts_S2700_S1x2700

/-- Where a column's largest entry stands. -/
def isMax (cur : FVec F S192x2700 .f32) : IVec S192x2700 1 :=
  cmpf .oeq cur (broadcastTo S192x2700 (rowMax cur) broadcasts_S1x2700_S192x2700)

/-- How often the largest entry occurs in each column. -/
def rowCount (cur : FVec F S192x2700 .f32) : FVec F S1x2700 .f32 :=
  shapeCast S1x2700 (multiReduction .add [0] S2700 (sitofp .f32 (extui 32 (isMax cur) natLt_1_32)) 0x00000000#32 reduces_S192x2700_S2700 (.inl rfl) rfl) shapeCasts_S2700_S1x2700

/-- How many copies are taken. -/
def rowTake (cur : FVec F S192x2700 .f32) (rem : FVec F S1x2700 .f32) : FVec F S1x2700 .f32 :=
  minimumf (rowCount cur) rem

/-- The sum after the round. -/
def rowAcc (cur : FVec F S192x2700 .f32) (acc rem : FVec F S1x2700 .f32) : FVec F S1x2700 .f32 :=
  addf acc (mulf (mulf (rowTake cur rem) (rowMax cur)) (rowMax cur))

/-- How many entries may still be taken after the round. -/
def rowRem (cur : FVec F S192x2700 .f32) (rem : FVec F S1x2700 .f32) : FVec F S1x2700 .f32 :=
  subf rem (rowTake cur rem)

/-- The table after the round: the largest entries overwritten by the mark. -/
def rowMask (cur : FVec F S192x2700 .f32) : FVec F S192x2700 .f32 :=
  select (isMax cur) (broadcast S192x2700 (Scalar.ofBits .f32 0xF149F2CA#32 : F .f32)) cur

/-- The zero row and the row of fives the search starts from. -/
def row0 : FVec F S1x2700 .f32 := broadcast S1x2700 (Scalar.ofBits .f32 0x00000000#32 : F .f32)
def row5 : FVec F S1x2700 .f32 := broadcast S1x2700 (Scalar.ofBits .f32 0x40A00000#32 : F .f32)

/-- Five rounds. -/
def rounds (cur : FVec F S192x2700 .f32) : FVec F S1x2700 .f32 :=
  let c1 := rowMask cur; let c2 := rowMask c1; let c3 := rowMask c2; let c4 := rowMask c3
  let r1 := rowRem cur row5; let r2 := rowRem c1 r1; let r3 := rowRem c2 r2; let r4 := rowRem c3 r3
  rowAcc c4 (rowAcc c3 (rowAcc c2 (rowAcc c1 (rowAcc cur row0 row5) r1) r2) r3) r4

/-- The first way's row. -/
theorem way0 (v3 : FVec F S960x512 .f32) (v87 : FVec F S2700x512 .bf16) (v89 : FVec F S960 .f32) :
    k2_pay38
      (k2_pay33 (k2_pay12 v3 v87 v89) (k2_pay15 v3 v87 v89) (k2_pay17 v3 v87 v89) (k2_pay18 v3 v87 v89) (Scalar.ofBits .f32 0xF149F2CA#32))
      (k2_pay34 (k2_pay12 v3 v87 v89) (k2_pay15 v3 v87 v89) (k2_pay18 v3 v87 v89) (Scalar.ofBits .f32 0xF149F2CA#32))
      (k2_pay35 (k2_pay12 v3 v87 v89) (k2_pay15 v3 v87 v89) (Scalar.ofBits .f32 0xF149F2CA#32))
      (k2_pay36 (k2_pay12 v3 v87 v89) (k2_pay15 v3 v87 v89) (Scalar.ofBits .f32 0xF149F2CA#32))
      (k2_pay37 (k2_pay12 v3 v87 v89) (k2_pay15 v3 v87 v89) (Scalar.ofBits .f32 0xF149F2CA#32))
    = rounds (extractStridedSlice S192x2700 ![0, 0] (k2_pay11 v3 v87 v89) slices_S960x2700_o0_0_S192x2700) := rfl

/-- The second way's row. -/
theorem way1 (v118 : FVec F S960x2700 .f32) :
    k2_pay55 (k2_pay49 v118) (k2_pay50 v118) (k2_pay51 v118) (k2_pay52 v118) (k2_pay53 v118) (k2_pay54 v118)
    = rounds (extractStridedSlice S192x2700 ![192, 0] v118 slices_S960x2700_o192_0_S192x2700) := rfl

/-- The third way's row. -/
theorem way2 (v118 : FVec F S960x2700 .f32) :
    k2_pay81
      (k2_pay77 (k2_pay56 v118) (k2_pay57 (F := F)) (k2_pay59 v118) (k2_pay60 v118) (k2_pay61 v118))
      (k2_pay78 (k2_pay56 v118) (k2_pay57 (F := F)) (k2_pay59 v118) (k2_pay60 v118))
      (k2_pay79 (k2_pay56 v118) (k2_pay59 v118)) (k2_pay80 (k2_pay56 v118) (k2_pay59 v118))
    = rounds (extractStridedSlice S192x2700 ![384, 0] v118 slices_S960x2700_o384_0_S192x2700) := rfl

/-- The fourth way's row. -/
theorem way3 (v118 : FVec F S960x2700 .f32) :
    k2_pay98 (k2_pay92 v118) (k2_pay93 v118) (k2_pay94 v118) (k2_pay95 v118) (k2_pay96 v118) (k2_pay97 v118)
    = rounds (extractStridedSlice S192x2700 ![576, 0] v118 slices_S960x2700_o576_0_S192x2700) := rfl

/-- The fifth way's row, whose last round the kernel's last step takes. -/
theorem way4 (v118 : FVec F S960x2700 .f32) :
    rowAcc (k2_pay123 (k2_pay99 v118) (k2_pay103 v118))
      (k2_pay121 (k2_pay99 v118) (k2_pay100 (F := F)) (k2_pay101 (F := F)) (k2_pay102 v118) (k2_pay103 v118) (k2_pay104 v118) (k2_pay105 v118))
      (k2_pay122 (k2_pay99 v118) (k2_pay101 (F := F)) (k2_pay103 v118) (k2_pay104 v118))
    = rounds (extractStridedSlice S192x2700 ![768, 0] v118 slices_S960x2700_o768_0_S192x2700) := rfl

/-- The products of every shot position with every query position, the padding rows marked. -/
def table (v1 : FVec F S2700x512 .f32) (v3 : FVec F S960x512 .f32) : FVec F S960x2700 .f32 :=
  k2_pay11 v3 (k2_pay9 v1) (k2_pay10 v3)

/-- The five rows of sums, one per way. -/
def rows (M : FVec F S960x2700 .f32) : FVec F S5x2700 .f32 :=
  concatenate S5x2700 0
    [⟨S1x2700, rounds (extractStridedSlice S192x2700 ![0, 0] M slices_S960x2700_o0_0_S192x2700)⟩,
     ⟨S1x2700, rounds (extractStridedSlice S192x2700 ![192, 0] M slices_S960x2700_o192_0_S192x2700)⟩,
     ⟨S1x2700, rounds (extractStridedSlice S192x2700 ![384, 0] M slices_S960x2700_o384_0_S192x2700)⟩,
     ⟨S1x2700, rounds (extractStridedSlice S192x2700 ![576, 0] M slices_S960x2700_o576_0_S192x2700)⟩,
     ⟨S1x2700, rounds (extractStridedSlice S192x2700 ![768, 0] M slices_S960x2700_o768_0_S192x2700)⟩]
    concatenates_S1x2700_S1x2700_S1x2700_S1x2700_S1x2700_S5x2700_d0

variable [Named F]

/-- The cosines of the mean descriptors. -/
def cosines (v1 : FVec F S2700x512 .f32) (v3 : FVec F S960x512 .f32) : FVec F S75x5 .f32 :=
  k2_pay8 v1 v3 k2_pay4 (iota .tc S5x960 32 [0] iota_S5x960_d0_w32) (iota .tc S5x960 32 [1] iota_S5x960_d1_w32) 192#32
    k2_pay5 k2_pay6 k2_pay7

/-- The matching score of every query with every way. -/
def matching (R : FVec F S5x2700 .f32) : FVec F S75x5 .f32 :=
  mulf (sqrt (matmul dot_S75x2700_S5x2700_S75x5_1_1_0_0_n_n none (k2_pay4 (F := F)) R (constant S75x5 .f32 0x00000000#32)))
    (broadcast S75x5 (Named.named κ "inv_kq" 0x3B2EC33E#32 : F .f32))

/-- What the body stores for one batch entry, from its two parameters and its two blocks of features. -/
def score (p0 p1 : F .f32) (v1 : FVec F S2700x512 .f32) (v3 : FVec F S960x512 .f32) : FVec F S1x75x5 .f32 :=
  shapeCast S1x75x5
    (addf (mulf (broadcast S75x5 p0) (cosines v1 v3)) (mulf (broadcast S75x5 p1) (matching (rows (table v1 v3)))))
    shapeCasts_S75x5_S1x75x5

/-- The last step of the printed body, with the last way's last round, in this vocabulary. -/
theorem pay1_eq (p0 p1 : F .f32) (v1 : FVec F S2700x512 .f32) (v3 : FVec F S960x512 .f32) (r0 r1 r2 r3 v478 v479 : FVec F S1x2700 .f32)
    (v481 : FVec F S192x2700 .f32)
    (h0 : r0 = rounds (extractStridedSlice S192x2700 ![0, 0] (table v1 v3) slices_S960x2700_o0_0_S192x2700))
    (h1 : r1 = rounds (extractStridedSlice S192x2700 ![192, 0] (table v1 v3) slices_S960x2700_o192_0_S192x2700))
    (h2 : r2 = rounds (extractStridedSlice S192x2700 ![384, 0] (table v1 v3) slices_S960x2700_o384_0_S192x2700))
    (h3 : r3 = rounds (extractStridedSlice S192x2700 ![576, 0] (table v1 v3) slices_S960x2700_o576_0_S192x2700))
    (h4 : rowAcc v481 v478 v479 = rounds (extractStridedSlice S192x2700 ![768, 0] (table v1 v3) slices_S960x2700_o768_0_S192x2700)) :
    k2_pay1 k2_pay4 (cosines v1 v3) r0 r1 r2 r3 v478 v479 v481 p0 p1 = score p0 p1 v1 v3 := by
  subst h0 h1 h2 h3
  unfold score rows
  rw [← h4]
  rfl

/-- What the body leaves in its output block, from the three blocks it reads. -/
theorem out2_eq (c : Dev nD) (i : grid2.Coords) (arg1 : Memref sig .tc .smem S2 .f32) (harg1 : arg1.IsWhole)
    (arg2 : Memref sig .tc .vmem S1x2700x512 .f32) (harg2 : arg2.IsWhole) (arg3 : Memref sig .tc .vmem S1x960x512 .f32) (harg3 : arg3.IsWhole)
    (arg4 : Memref sig .tc .vmem S1x75x5 .f32) (harg4 : arg4.IsWhole)
    (x0 : Vec F S2 .f32) (x1 : Vec F S1x2700x512 .f32) (x2 : Vec F S1x960x512 .f32) :
    out2_A_3 c i arg1 harg1 arg2 harg2 arg3 harg3 arg4 harg4 x0 x1 x2
      = score (x0 (ix1 (0 : Fin 2))) (x0 (ix1 (1 : Fin 2))) (k2_pay2 x1) (k2_pay3 x2) := by
  unfold out2_A_3
  rw [View.read_writes_eq_canon _ _ _ (fun y => cover2_A_3 _ _ _ _ _ _ _ _ _ _ _ _ _ y)]
  unfold kernelRun2_A
  dsimp only
  sl_unfold_words
  simp only [View.readAt_eq_ld, harg1.read_unread, harg2.read_unread, harg3.read_unread]
  rw [View.canon_cons_unit_lit _ _ _ (by decide)]
  have l1 : View.ld x1 (Rect.unit (s := S1x2700x512) ![0, 0, 0] ![1, 2700, 512] inb_S1x2700x512_S1x2700x512_0_0_0) = x1 :=
    View.ld_unit_lit inb_S1x2700x512_S1x2700x512_0_0_0 x1 (by decide)
  have l2 : View.ld x2 (Rect.unit (s := S1x960x512) ![0, 0, 0] ![1, 960, 512] inb_S1x960x512_S1x960x512_0_0_0) = x2 :=
    View.ld_unit_lit inb_S1x960x512_S1x960x512_0_0_0 x2 (by decide)
  simp only [l1, l2]
  refine (pay1_eq _ _ _ _ _ _ _ _ _ _ _ (way0 _ _ _) (way1 _) (way2 _) (way3 _) (way4 _)).trans ?_
  congr 1 <;> exact congrArg x0 (by funext a; fin_cases a; rfl)

/-- What the body leaves in its output block at a point, from the point's blocks. -/
theorem outsAt2_eq (V : (c : Dev nD) → (b : Ref sig .tc) → Buf (Elt F) ((c : Thread nD τ).loc b)) (c : Dev nD) (t : Fin cfg2.N) :
    outsAt2 V c t = score (iblk2 V c 0 t (ix1 (0 : Fin 2))) (iblk2 V c 0 t (ix1 (1 : Fin 2)))
      (k2_pay2 (iblk2 V c 1 t)) (k2_pay3 (iblk2 V c 2 t)) :=
  out2_eq ..

end Cert.Proof.Rounds

end
-- ==== Proof.TopSum.lean ====
module

public import Idealize.ShloMosaic.Lib.Pipeline.ValueKit

/-!
Adding the five largest entries of a list without sorting it

The kernel adds the squares of the five largest entries of a column by repeating one round five
times: take the largest entry left, count how often it occurs, add its square as often as it occurs
but never beyond five entries in all, and overwrite every place it occurs in by a negative mark.
Here that procedure is written for a column over any finite index type, and it is shown to give the
sum of the first five squares of any descending arrangement of the column's real entries.
-/

@[expose] public section

open Idealize.ShloMosaic

namespace Cert.Proof.TopSum

/-- What is carried from round to round: the entries still standing, the sum so far, and how many
entries may still be taken. -/
structure State (ι : Type) where
  cur : ι → EReal
  acc : EReal
  rem : EReal

/-- The largest entry standing. -/
noncomputable def top {ι : Type} [Fintype ι] (cur : ι → EReal) : EReal :=
  (Finset.univ : Finset ι).fold max ⊥ cur

/-- How often the largest entry occurs. -/
noncomputable def count {ι : Type} [Fintype ι] (cur : ι → EReal) : EReal :=
  ∑ i, if cur i = top cur then (1 : EReal) else 0

/-- How many copies of the largest entry are taken in a round. -/
noncomputable def take {ι : Type} [Fintype ι] (s : State ι) : EReal := min (count s.cur) s.rem

/-- One round; `μ` is the mark that overwrites an entry once it has been counted. -/
noncomputable def step {ι : Type} [Fintype ι] (μ : EReal) (s : State ι) : State ι where
  cur := fun i => if s.cur i = top s.cur then μ else s.cur i
  acc := s.acc + take s * top s.cur * top s.cur
  rem := s.rem - take s

/-- The column `cur` arranged by `e` : its real entries are `y 0 ≥ y 1 ≥ … ≥ y (n-1) ≥ 0`, found at the
places `e 0, …, e (n-1)`; the first `c` of them, and every other place, carry the mark. -/
structure Arranged {ι : Type} (μ : EReal) (n : ℕ) (e : ℕ → ι) (y : ℕ → ℝ) (c : ℕ)
    (cur : ι → EReal) : Prop where
  inj : ∀ a < n, ∀ b < n, e a = e b → a = b
  anti : ∀ a b, a ≤ b → b < n → y b ≤ y a
  nonneg : ∀ a < n, 0 ≤ y a
  neg : μ < 0
  le : c ≤ n
  at_e : ∀ r < n, cur (e r) = if r < c then μ else (y r : EReal)
  off : ∀ i, (∀ r < n, e r ≠ i) → cur i = μ

/-- The state after the first `c` entries of the arrangement have been masked: the sum is over the
first `min c 5` of them. -/
structure Reached {ι : Type} (μ : EReal) (n : ℕ) (e : ℕ → ι) (y : ℕ → ℝ) (c : ℕ) (s : State ι) :
    Prop where
  arr : Arranged μ n e y c s.cur
  acc : s.acc = ((∑ r ∈ Finset.range (min c 5), y r * y r : ℝ) : EReal)
  rem : s.rem = ((5 - (min c 5 : ℕ) : ℝ) : EReal)

variable {ι : Type} [Fintype ι] {μ : EReal} {n : ℕ} {e : ℕ → ι} {y : ℕ → ℝ} {c : ℕ}

/-- Every entry of an arranged column is the mark or one of the real entries not yet masked. -/
theorem Arranged.cases {cur : ι → EReal} (h : Arranged μ n e y c cur) (i : ι) :
    cur i = μ ∨ ∃ r, c ≤ r ∧ r < n ∧ e r = i ∧ cur i = (y r : EReal) := by
  by_cases hi : ∃ r, r < n ∧ e r = i
  · obtain ⟨r, hr, rfl⟩ := hi
    rw [h.at_e r hr]
    by_cases hc : r < c
    · simp [hc]
    · right; exact ⟨r, by omega, hr, rfl, by simp [hc]⟩
  · left; exact h.off i fun r hr he => hi ⟨r, hr, he⟩

/-- As long as an entry stands, the largest is the first of those standing. -/
theorem Arranged.top_eq {cur : ι → EReal} (h : Arranged μ n e y c cur) (hc : c < n) :
    top cur = (y c : EReal) := by
  unfold top
  apply le_antisymm
  · rw [Finset.fold_max_le]
    refine ⟨bot_le, fun i _ => ?_⟩
    rcases h.cases i with hi | ⟨r, hcr, hr, -, hi⟩
    · rw [hi]; exact h.neg.le.trans (by exact_mod_cast h.nonneg c hc)
    · rw [hi]; exact_mod_cast h.anti c r hcr hr
  · rw [Finset.le_fold_max]
    right
    exact ⟨e c, Finset.mem_univ _, by rw [h.at_e c hc]; simp⟩

/-- The copies of the first standing entry lie next to one another in the arrangement. -/
theorem run_end (hanti : ∀ a b, a ≤ b → b < n → y b ≤ y a) (hc : c < n) :
    ∃ d, c < d ∧ d ≤ n ∧ ∀ r, c ≤ r → r < n → (y r = y c ↔ r < d) := by
  classical
  have hex : ∃ d, c < d ∧ (d = n ∨ y d ≠ y c) := ⟨n, hc, .inl rfl⟩
  refine ⟨Nat.find hex, (Nat.find_spec hex).1, Nat.find_min' hex ⟨hc, .inl rfl⟩, fun r hcr hr => ?_⟩
  constructor
  · intro hy
    by_contra hlt
    have hd := Nat.find_spec hex
    rcases hd.2 with hdn | hdy
    · omega
    · apply hdy
      have h1 := hanti c (Nat.find hex) hd.1.le (by omega)
      have h2 := hanti (Nat.find hex) r (by omega) hr
      linarith
  · intro hlt
    rcases hcr.eq_or_lt with rfl | hlt'
    · rfl
    · have := Nat.find_min hex hlt
      by_contra hy
      exact this ⟨hlt', .inr hy⟩

/-- The count of the largest entry is the length of its run. -/
theorem Arranged.count_eq {cur : ι → EReal} (h : Arranged μ n e y c cur) (hc : c < n) {d : ℕ}
    (hcd : c < d) (hdn : d ≤ n) (hd : ∀ r, c ≤ r → r < n → (y r = y c ↔ r < d)) :
    count cur = (((d - c : ℕ) : ℝ) : EReal) := by
  classical
  unfold count
  rw [h.top_eq hc]
  have hset : (Finset.univ.filter fun i => cur i = (y c : EReal)) = (Finset.Ico c d).image e := by
    ext i
    simp only [Finset.mem_filter, Finset.mem_univ, true_and, Finset.mem_image, Finset.mem_Ico]
    constructor
    · intro hi
      rcases h.cases i with hm | ⟨r, hcr, hr, he, hv⟩
      · exfalso
        rw [hm] at hi
        have : (0 : EReal) ≤ (y c : EReal) := by exact_mod_cast h.nonneg c hc
        rw [← hi] at this
        exact absurd h.neg (not_lt.mpr this)
      · rw [hv] at hi
        exact ⟨r, ⟨hcr, (hd r hcr hr).1 (by exact_mod_cast hi)⟩, he⟩
    · rintro ⟨r, ⟨hcr, hrd⟩, rfl⟩
      rw [h.at_e r (by omega), if_neg (by omega), (hd r hcr (by omega)).2 hrd]
  rw [← Finset.sum_filter, hset, Finset.sum_const, Finset.card_image_of_injOn]
  · simp
  · intro a ha b hb hab
    simp only [Finset.coe_Ico, Set.mem_Ico] at ha hb
    exact h.inj a (by omega) b (by omega) hab

/-- Masking the largest entry masks its whole run. -/
theorem Arranged.mask {cur : ι → EReal} (h : Arranged μ n e y c cur) (hc : c < n) {d : ℕ}
    (hcd : c < d) (hdn : d ≤ n) (hd : ∀ r, c ≤ r → r < n → (y r = y c ↔ r < d)) :
    Arranged μ n e y d fun i => if cur i = top cur then μ else cur i where
  inj := h.inj
  anti := h.anti
  nonneg := h.nonneg
  neg := h.neg
  le := hdn
  at_e := by
    intro r hr
    rw [h.top_eq hc, h.at_e r hr]
    by_cases hrc : r < c
    · simp [hrc, show r < d by omega]
    · rw [if_neg hrc]
      have := hd r (by omega) hr
      by_cases hrd : r < d
      · rw [if_pos hrd, if_pos (by rw [this.2 hrd])]
      · rw [if_neg hrd, if_neg]
        intro he
        exact hrd (this.1 (by exact_mod_cast he))
  off := by
    intro i hi
    rw [h.off i hi]
    simp

/-- One round brings the state further along the arrangement, or all entries are already masked. -/
theorem Reached.step {s : State ι} (h : Reached μ n e y c s) (hn : 5 ≤ n) :
    ∃ d, (c < d ∨ n ≤ d) ∧ Reached μ n e y d (step μ s) := by
  by_cases hc : c < n
  · obtain ⟨d, hcd, hdn, hd⟩ := run_end h.arr.anti hc
    refine ⟨d, .inl hcd, ?_⟩
    have htake : take s = (((min d 5 - min c 5 : ℕ) : ℝ) : EReal) := by
      unfold take
      rw [h.arr.count_eq hc hcd hdn hd, h.rem, ← EReal.coe_strictMono.monotone.map_min]
      congr 1
      rw [show (5 - ((min c 5 : ℕ) : ℝ)) = ((5 - min c 5 : ℕ) : ℝ) by
        rw [Nat.cast_sub (by omega)]; norm_num, ← Nat.cast_min]
      congr 1
      omega
    refine ⟨h.arr.mask hc hcd hdn hd, ?_, ?_⟩
    · show s.acc + take s * top s.cur * top s.cur = _
      rw [htake, h.acc, h.arr.top_eq hc]
      have hsum : (∑ r ∈ Finset.range (min d 5), y r * y r)
          = (∑ r ∈ Finset.range (min c 5), y r * y r) + ((min d 5 - min c 5 : ℕ) : ℝ) * y c * y c := by
        rw [← Finset.sum_range_add_sum_Ico _ (show min c 5 ≤ min d 5 by omega)]
        congr 1
        rw [Finset.sum_congr rfl (g := fun _ => y c * y c), Finset.sum_const, Nat.card_Ico,
          nsmul_eq_mul, mul_assoc]
        intro r hr
        simp only [Finset.mem_Ico] at hr
        rw [(hd r (by omega) (by omega)).2 (by omega)]
      rw [hsum]
      push_cast
      rfl
    · show s.rem - take s = _
      rw [htake, h.rem, ← EReal.coe_sub]
      congr 1
      rw [Nat.cast_sub (show min c 5 ≤ min d 5 by omega)]
      ring
  · have hcn : c = n := le_antisymm h.arr.le (not_lt.mp hc)
    refine ⟨c, .inr hcn.ge, ?_⟩
    have hmin : min c 5 = 5 := by omega
    have hrem : s.rem = 0 := by rw [h.rem, hmin]; norm_num
    have hcount : 0 ≤ count s.cur := by
      unfold count
      exact Finset.sum_nonneg fun i _ => by split_ifs <;> norm_num
    have htake : take s = 0 := by unfold take; rw [hrem]; exact min_eq_right hcount
    have hmask : (fun i => if s.cur i = top s.cur then μ else s.cur i) = s.cur := by
      funext i
      rcases h.arr.cases i with hi | ⟨r, hcr, hr, -⟩
      · rw [hi]; simp
      · omega
    refine ⟨?_, ?_, ?_⟩
    · show Arranged μ n e y c fun i => if s.cur i = top s.cur then μ else s.cur i
      rw [hmask]; exact h.arr
    · show s.acc + take s * top s.cur * top s.cur = _
      rw [htake, zero_mul, zero_mul, add_zero, h.acc]
    · show s.rem - take s = _
      rw [htake, h.rem]
      simp

/-- The sum after five rounds. -/
noncomputable def topSum (μ : EReal) (cur : ι → EReal) : EReal :=
  (step μ (step μ (step μ (step μ (step μ ⟨cur, 0, 5⟩))))).acc

/-- **Five rounds add the first five squares of the arrangement.** -/
theorem topSum_eq {cur : ι → EReal} (h : Arranged μ n e y 0 cur) (hn : 5 ≤ n) :
    topSum μ cur = ((∑ r ∈ Finset.range 5, y r * y r : ℝ) : EReal) := by
  have h0 : Reached μ n e y 0 ⟨cur, 0, 5⟩ :=
    ⟨h, by simp, by show (5 : EReal) = _; norm_num; rfl⟩
  obtain ⟨d1, k1, h1⟩ := h0.step hn
  obtain ⟨d2, k2, h2⟩ := h1.step hn
  obtain ⟨d3, k3, h3⟩ := h2.step hn
  obtain ⟨d4, k4, h4⟩ := h3.step hn
  obtain ⟨d5, k5, h5⟩ := h4.step hn
  have := h5.acc
  rw [show min d5 5 = 5 by omega] at this
  exact this

end Cert.Proof.TopSum
-- ==== Proof.Norm.lean ====
/-
  Facts about the extended reals: what dividing by a root and multiplying by a reciprocal root have in
  common, means of nonnegative numbers, and normalised vectors of nonnegative entries.
-/
module

public import Idealize.ShloMosaic.Lib.Pipeline.ValueKit

@[expose] public section

noncomputable section

open Idealize.ShloMosaic

namespace Cert.Proof.Norm

variable {ι κ : Type} [Fintype ι] [Fintype κ]

/-- The square of a vector's length. -/
def sq (v : ι → EReal) : EReal := ∑ c, v c * v c

/-- A vector over its length, written as a product with the reciprocal root. -/
def unit (v : ι → EReal) (c : ι) : EReal := v c * Ideal.rsqrt (sq v)

/-- The smallest squared length the kernel divides a shot's descriptor by. -/
def floor : EReal := Ideal.ofBits .f32 0x0DA24260#32

/-- The mark the kernel overwrites a used entry by. -/
def mark : EReal := Ideal.ofBits .f32 0xF149F2CA#32

/-- The floor is a positive number. -/
theorem floor_pos : 0 < floor := by
  unfold floor
  simp [Ideal.ofBits, Ideal.ieee, -EReal.coe_mul]

/-- The mark is a negative number. -/
theorem mark_neg : mark < 0 := by
  unfold mark
  simp [Ideal.ofBits, Ideal.ieee, -EReal.coe_mul]

/-- Off zero, dividing by a root is multiplying by the reciprocal root, at infinity too. -/
theorem div_sqrt {y : EReal} (hy : 0 < y) (x : EReal) :
    Ideal.div x (Ideal.sqrt y) = x * Ideal.rsqrt y := by
  induction y using EReal.rec with
  | bot => simp at hy
  | top => simp [Ideal.div]
  | coe r =>
    have hr : 0 < r := by exact_mod_cast hy
    have hs : Real.sqrt r ≠ 0 := (Real.sqrt_pos.2 hr).ne'
    rw [Ideal.sqrt_coe, Ideal.rsqrt_coe, if_neg (not_lt.2 hr.le), if_neg (not_lt.2 hr.le),
      if_neg hr.ne', Ideal.div_coe hs, one_div]

/-- A squared length is not negative. -/
theorem sq_nonneg {v : ι → EReal} (hv : ∀ c, 0 ≤ v c) : 0 ≤ sq v :=
  Finset.sum_nonneg fun c _ => mul_nonneg (hv c) (hv c)

/-- Each square is at most the squared length. -/
theorem le_sq {v : ι → EReal} (hv : ∀ c, 0 ≤ v c) (c : ι) : v c * v c ≤ sq v :=
  Finset.single_le_sum (f := fun c => v c * v c) (fun c _ => mul_nonneg (hv c) (hv c))
    (Finset.mem_univ c)

/-- A positive squared length has a positive entry behind it. -/
theorem exists_pos {v : ι → EReal} (hv : ∀ c, 0 ≤ v c) (h : 0 < sq v) : ∃ c, 0 < v c := by
  by_contra hne
  push Not at hne
  have : sq v = 0 := Finset.sum_eq_zero fun c _ => by
    rw [le_antisymm (hne c) (hv c), zero_mul]
  exact absurd h (by rw [this]; exact lt_irrefl _)

/-- A positive entry makes the squared length positive. -/
theorem sq_pos {v : ι → EReal} (hv : ∀ c, 0 ≤ v c) {c : ι} (h : 0 < v c) : 0 < sq v :=
  (EReal.mul_pos h h).trans_le (le_sq hv c)

/-- The entries of a normalised vector of nonnegative entries are nonnegative real numbers, whatever
infinities the vector holds. -/
theorem unit_real {v : ι → EReal} (hv : ∀ c, 0 ≤ v c) (c : ι) : ∃ r : ℝ, 0 ≤ r ∧ unit v c = r := by
  have h0 := sq_nonneg hv
  have hc := le_sq hv c
  unfold unit
  generalize sq v = y at h0 hc
  induction y using EReal.rec with
  | bot => simp at h0
  | top => exact ⟨0, le_rfl, by simp⟩
  | coe a =>
    have ha : 0 ≤ a := by exact_mod_cast h0
    have hvc := hv c
    generalize v c = x at hc hvc
    induction x using EReal.rec with
    | bot => simp at hvc
    | top => rw [EReal.top_mul_top] at hc; exact absurd hc (not_le.2 (EReal.coe_lt_top a))
    | coe b =>
      have hb : 0 ≤ b := by exact_mod_cast hvc
      have hba : b * b ≤ a := by exact_mod_cast hc
      rw [Ideal.rsqrt_coe, if_neg (not_lt.2 ha)]
      by_cases h : a = 0
      · rw [h] at hba
        have hb0 : b = 0 := by nlinarith
        exact ⟨0, le_rfl, by simp [h, hb0]⟩
      · rw [if_neg h]
        exact ⟨b * (Real.sqrt a)⁻¹, mul_nonneg hb (inv_nonneg.2 (Real.sqrt_nonneg a)), by push_cast; rfl⟩

/-- A sum of real numbers, added up among the extended reals. -/
theorem coe_sum {κ : Type} (s : Finset κ) (f : κ → ℝ) : ((∑ i ∈ s, f i : ℝ) : EReal) = ∑ i ∈ s, (f i : EReal) :=
  map_sum (⟨⟨Real.toEReal, rfl⟩, EReal.coe_add⟩ : ℝ →+ EReal) _ _

/-- A sum of products of nonnegative real numbers is a nonnegative real number. -/
theorem dot_real {u v : ι → EReal} (hu : ∀ c, ∃ r : ℝ, 0 ≤ r ∧ u c = r)
    (hv : ∀ c, ∃ r : ℝ, 0 ≤ r ∧ v c = r) : ∃ r : ℝ, 0 ≤ r ∧ ∑ c, u c * v c = r := by
  choose a ha hua using hu
  choose b hb hvb using hv
  refine ⟨∑ c, a c * b c, Finset.sum_nonneg fun c _ => mul_nonneg (ha c) (hb c), ?_⟩
  rw [Finset.sum_congr rfl fun c _ => by rw [hua, hvb, ← EReal.coe_mul]]
  exact (coe_sum _ _).symm

/-- A sum of nonnegative numbers is scaled term by term. -/
theorem sum_mul {f : ι → EReal} (hf : ∀ i, 0 ≤ f i) (k : EReal) : (∑ i, f i) * k = ∑ i, f i * k := by
  classical
  have : ∀ s : Finset ι, (∑ i ∈ s, f i) * k = ∑ i ∈ s, f i * k := by
    intro s
    induction s using Finset.induction_on with
    | empty => simp
    | insert a s ha ih =>
      rw [Finset.sum_insert ha, Finset.sum_insert ha, ← ih,
        EReal.right_distrib_of_nonneg (hf a) (Finset.sum_nonneg fun i _ => hf i)]
  exact this Finset.univ

/-- The mean over a product of two axes is the mean of the means. -/
theorem mean_mean {f : ι → κ → EReal} (hf : ∀ i j, 0 ≤ f i j) (a b : ℝ) :
    (∑ i, (∑ j, f i j) * (a : EReal)) * (b : EReal) = (∑ i, ∑ j, f i j) * ((a * b : ℝ) : EReal) := by
  rw [← sum_mul (fun i => Finset.sum_nonneg fun j _ => hf i j), mul_assoc, ← EReal.coe_mul]

end Cert.Proof.Norm

end
-- ==== Proof.RoundsValue.lean ====
/-
  The rounds of the top-five search, read column by column over the extended reals.
-/
module

public import proofs.«01_k».proof.Proof.Rounds
public import proofs.«01_k».proof.Proof.TopSum
public import proofs.«01_k».proof.Proof.Norm

@[expose] public section

set_option maxRecDepth 16384

noncomputable section

open Idealize.ShloMosaic Idealize.ShloMosaic.TcCoe Idealize.SL.Sem

namespace Cert.Proof.RoundsValue

open Cert.KernelIdeal Cert.KernelIdeal.Gen Cert.Proof.Rounds

/-- A column of a table of 192 rows. -/
def col (cur : FVec Ideal S192x2700 .f32) (j : Fin 2700) (i : Fin 192) : EReal := cur (ix2 i j)

/-- The pattern the largest entry is searched from is the least extended real. -/
theorem bits_bot : Ideal.ofBits .f32 0xFF800000#32 = ⊥ := by
  simp [Ideal.ofBits, Ideal.ieee]

/-- The pattern of five. -/
theorem bits_five : Ideal.ofBits .f32 0x40A00000#32 = 5 := by
  rw [show (5 : EReal) = ((5 : ℝ) : EReal) by norm_num; rfl]
  simp [Ideal.ofBits, Ideal.ieee, -EReal.coe_mul]; norm_num

/-- A flag of one bit, widened and made a number. -/
theorem flag (P : Prop) [Decidable P] :
    (FloatOps.sitofp .f32 (BitVec.setWidth 32 (if P then 1#1 else 0#1)) : Ideal .f32) = if P then (1 : EReal) else 0 := by
  split_ifs
  · show (((1#32 : BitVec 32).toInt : ℝ) : EReal) = 1
    norm_num
  · show (((0#32 : BitVec 32).toInt : ℝ) : EReal) = 0
    norm_num

theorem rowMax_apply (cur : FVec Ideal S192x2700 .f32) (j : Fin 2700) :
    rowMax cur (ix2 (0 : Fin 1) j) = TopSum.top (col cur j) := by
  unfold rowMax TopSum.top col
  pointwise
  rw [bits_bot]

theorem isMax_apply (cur : FVec Ideal S192x2700 .f32) (i : Fin 192) (j : Fin 2700) :
    isMax cur (ix2 i j) = if col cur j i = TopSum.top (col cur j) then 1#1 else 0#1 := by
  rw [← rowMax_apply]
  unfold isMax col
  pointwise
  by_cases h : cur (ix2 i j) = rowMax cur (ix2 0 j) <;> simp [h]

theorem rowCount_apply (cur : FVec Ideal S192x2700 .f32) (j : Fin 2700) :
    rowCount cur (ix2 (0 : Fin 1) j) = TopSum.count (col cur j) := by
  unfold rowCount TopSum.count
  pointwise
  refine Finset.sum_congr rfl fun i _ => ?_
  rw [isMax_apply, flag]

theorem rowMask_apply (cur : FVec Ideal S192x2700 .f32) (j : Fin 2700) :
    col (rowMask cur) j = fun i => if col cur j i = TopSum.top (col cur j) then Norm.mark else col cur j i := by
  funext i
  unfold rowMask
  show rowMask cur (ix2 i j) = _
  unfold rowMask
  pointwise
  rw [isMax_apply]
  by_cases h : col cur j i = TopSum.top (col cur j)
  · rw [if_pos h, if_pos h]; rfl
  · rw [if_neg h, if_neg h]; rfl

/-- The five rounds on a column are the search of its five largest entries. -/
theorem rounds_apply (cur : FVec Ideal S192x2700 .f32) (j : Fin 2700) :
    rounds cur (ix2 (0 : Fin 1) j) = TopSum.topSum Norm.mark (col cur j) := by
  have hacc : ∀ (cur : FVec Ideal S192x2700 .f32) (acc rem : FVec Ideal S1x2700 .f32),
      rowAcc cur acc rem (ix2 (0 : Fin 1) j)
        = (TopSum.step Norm.mark ⟨col cur j, acc (ix2 (0 : Fin 1) j), rem (ix2 (0 : Fin 1) j)⟩).acc := by
    intro cur acc rem
    unfold rowAcc rowTake TopSum.step TopSum.take
    pointwise
    rw [rowMax_apply, rowCount_apply]
  have hrem : ∀ (cur : FVec Ideal S192x2700 .f32) (acc : EReal) (rem : FVec Ideal S1x2700 .f32),
      rowRem cur rem (ix2 (0 : Fin 1) j)
        = (TopSum.step Norm.mark ⟨col cur j, acc, rem (ix2 (0 : Fin 1) j)⟩).rem := by
    intro cur acc rem
    unfold rowRem rowTake TopSum.step TopSum.take
    pointwise
    rw [rowCount_apply]
  have hcur : ∀ (cur : FVec Ideal S192x2700 .f32) (acc rem : EReal),
      col (rowMask cur) j = (TopSum.step Norm.mark ⟨col cur j, acc, rem⟩).cur := by
    intro cur acc rem
    rw [rowMask_apply]
    rfl
  have h0 : (row0 : FVec Ideal S1x2700 .f32) (ix2 (0 : Fin 1) j) = (0 : EReal) := by
    unfold row0; pointwise
  have h5 : (row5 : FVec Ideal S1x2700 .f32) (ix2 (0 : Fin 1) j) = (5 : EReal) := by
    unfold row5; pointwise; exact bits_five
  have hstep : ∀ (cur : FVec Ideal S192x2700 .f32) (acc rem : FVec Ideal S1x2700 .f32) (s : TopSum.State (Fin 192)),
      (⟨col cur j, acc (ix2 (0 : Fin 1) j), rem (ix2 (0 : Fin 1) j)⟩ : TopSum.State (Fin 192)) = s →
      (⟨col (rowMask cur) j, rowAcc cur acc rem (ix2 (0 : Fin 1) j), rowRem cur rem (ix2 (0 : Fin 1) j)⟩
        : TopSum.State (Fin 192)) = TopSum.step Norm.mark s := by
    intro cur acc rem s hs
    subst hs
    rw [hcur cur (acc (ix2 (0 : Fin 1) j)) (rem (ix2 (0 : Fin 1) j)), hacc, hrem cur (acc (ix2 (0 : Fin 1) j))]
  have s0 : (⟨col cur j, (row0 : FVec Ideal S1x2700 .f32) (ix2 (0 : Fin 1) j), (row5 : FVec Ideal S1x2700 .f32) (ix2 (0 : Fin 1) j)⟩ : TopSum.State (Fin 192)) = ⟨col cur j, 0, 5⟩ := by
    rw [h0, h5]
  have s4 := hstep _ _ _ _ (hstep _ _ _ _ (hstep _ _ _ _ (hstep _ _ _ _ s0)))
  unfold rounds TopSum.topSum
  rw [← s4]
  exact hacc _ _ _

end Cert.Proof.RoundsValue

end
-- ==== Proof.Words.lean ====
/-
  The integer arithmetic of the scoring kernel's body, on the few words it is used on: floors of quotients,
  a remainder, and flags made numbers.
-/
module

public import proofs.«01_k».proof.Proof.RoundsValue

@[expose] public section

set_option maxRecDepth 16384

noncomputable section

open Idealize.ShloMosaic Idealize.ShloMosaic.TcCoe Idealize.SL.Sem

namespace Cert.Proof.Words

open Cert.KernelIdeal Cert.KernelIdeal.Gen Cert.Proof.Rounds Cert.Proof.RoundsValue

/-- The floor of a quotient by 36, as the kernel computes it on words. -/
theorem quot36 : ∀ r : Fin 2700,
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 36#32 0#32))
            (Scalar.extui (Scalar.cmpi CmpIPredicate.slt 36#32 0#32))))
        (IntOp.cmpi CmpIPredicate.ne (IntOp.remsi ArithUnit.vector (BitVec.ofNat 32 r.val) 36#32) 0#32))
      (IntOp.subi (IntOp.divsi ArithUnit.vector (BitVec.ofNat 32 r.val) 36#32) 1#32)
      (IntOp.divsi ArithUnit.vector (BitVec.ofNat 32 r.val) 36#32) = BitVec.ofNat 32 (r.val / 36) := by
  decide +kernel

/-- The floor of a quotient by 192, as the kernel computes it on words. -/
theorem quot192 : ∀ r : Fin 960,
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 192#32 0#32))
            (Scalar.extui (Scalar.cmpi CmpIPredicate.slt 192#32 0#32))))
        (IntOp.cmpi CmpIPredicate.ne (IntOp.remsi ArithUnit.vector (BitVec.ofNat 32 r.val) 192#32) 0#32))
      (IntOp.subi (IntOp.divsi ArithUnit.vector (BitVec.ofNat 32 r.val) 192#32) 1#32)
      (IntOp.divsi ArithUnit.vector (BitVec.ofNat 32 r.val) 192#32) = BitVec.ofNat 32 (r.val / 192) := by
  decide +kernel

/-- An equality of small words, as a number. -/
theorem eq_flag (a b : ℕ) (ha : a < 2 ^ 32) (hb : b < 2 ^ 32) :
    (FloatOps.sitofp .f32 (BitVec.setWidth 32 (IntOp.cmpi CmpIPredicate.eq (BitVec.ofNat 32 a) (BitVec.ofNat 32 b))) : Ideal .f32)
      = if a = b then (1 : EReal) else 0 := by
  rw [← flag]
  congr 2
  by_cases h : a = b
  · subst h; simp [IntOp.cmpi]
  · have : BitVec.ofNat 32 a ≠ BitVec.ofNat 32 b := fun he => h (by
      have h2 := congrArg BitVec.toNat he
      rwa [BitVec.toNat_ofNat, BitVec.toNat_ofNat, Nat.mod_eq_of_lt ha, Nat.mod_eq_of_lt hb] at h2)
    simp only [IntOp.cmpi, h, if_false, beq_eq_false_iff_ne.2 this]
    rfl

/-- Whether a row of the table is padding, as the kernel computes it on words. -/
theorem pad192 : ∀ s : Fin 960,
    IntOp.cmpi CmpIPredicate.sge
      (Scalar.select
        (IntOp.andi
          (IntOp.xori
            (IntOp.cmpi CmpIPredicate.slt
              (IntOp.remsi ArithUnit.vector (BitVec.ofNat 32 s.val)
                (Scalar.select (Scalar.cmpi CmpIPredicate.eq 192#32 0#32) 1#32 192#32))
              0#32)
            (Scalar.cmpi CmpIPredicate.slt (Scalar.select (Scalar.cmpi CmpIPredicate.eq 192#32 0#32) 1#32 192#32)
              0#32))
          (IntOp.cmpi CmpIPredicate.ne
            (IntOp.remsi ArithUnit.vector (BitVec.ofNat 32 s.val)
              (Scalar.select (Scalar.cmpi CmpIPredicate.eq 192#32 0#32) 1#32 192#32))
            0#32))
        (IntOp.addi
          (IntOp.remsi ArithUnit.vector (BitVec.ofNat 32 s.val)
            (Scalar.select (Scalar.cmpi CmpIPredicate.eq 192#32 0#32) 1#32 192#32))
          (Scalar.select (Scalar.cmpi CmpIPredicate.eq 192#32 0#32) 1#32 192#32))
        (IntOp.remsi ArithUnit.vector (BitVec.ofNat 32 s.val)
          (Scalar.select (Scalar.cmpi CmpIPredicate.eq 192#32 0#32) 1#32 192#32)))
      180#32 = if 180 ≤ s.val % 192 then 1#1 else 0#1 := by
  decide +kernel

/-- Summing against the 0/1 row of one block of a divided axis is summing over the block. -/
theorem sum_block {m n : ℕ} (a : Fin m) (f : Fin (m * n) → EReal) :
    ∑ r : Fin (m * n), (if r.val / n = a.val then (1 : EReal) else 0) * f r
      = ∑ p : Fin n, f ⟨a.val * n + p.val, by nlinarith [a.isLt, p.isLt]⟩ := by
  rw [← finProdFinEquiv.sum_comp, Fintype.sum_prod_type, Finset.sum_eq_single a]
  · refine Finset.sum_congr rfl fun p _ => ?_
    have hn : 0 < n := p.pos
    have : (finProdFinEquiv (a, p)).val / n = a.val := by
      simp [finProdFinEquiv, Nat.add_mul_div_left _ _ hn, Nat.div_eq_of_lt p.isLt]
    rw [if_pos this, one_mul]
    congr 1
    ext
    simp [finProdFinEquiv]; ring
  · intro b _ hb
    refine Finset.sum_eq_zero fun p _ => ?_
    have hn : 0 < n := p.pos
    have : (finProdFinEquiv (b, p)).val / n = b.val := by
      simp [finProdFinEquiv, Nat.add_mul_div_left _ _ hn, Nat.div_eq_of_lt p.isLt]
    rw [if_neg (by rw [this]; exact fun h => hb (Fin.ext h)), zero_mul]
  · intro h; exact absurd (Finset.mem_univ _) h

/-- The same for the 75 queries of 36 positions. -/
theorem sum_query (a : Fin 75) (f : Fin 2700 → EReal) :
    ∑ r : Fin 2700, (if r.val / 36 = a.val then (1 : EReal) else 0) * f r
      = ∑ p : Fin 36, f ⟨a.val * 36 + p.val, by omega⟩ := sum_block (m := 75) (n := 36) a f

/-- The same for the five ways of 192 rows. -/
theorem sum_way (w : Fin 5) (f : Fin 960 → EReal) :
    ∑ r : Fin 960, (if r.val / 192 = w.val then (1 : EReal) else 0) * f r
      = ∑ p : Fin 192, f ⟨w.val * 192 + p.val, by omega⟩ := sum_block (m := 5) (n := 192) w f

end Cert.Proof.Words

end
-- ==== Proof.BlockValue.lean ====
/-
  What the scoring kernel's body computes from one batch entry's blocks of features, at the exact
  numbers: the 0/1 matrices that sum over a query or a way, the cosines, and the table of products.
-/
module

public import proofs.«01_k».proof.Proof.Words

@[expose] public section

set_option maxRecDepth 16384

noncomputable section

open Idealize.ShloMosaic Idealize.ShloMosaic.TcCoe Idealize.SL.Sem

namespace Cert.Proof.BlockValue

open Cert.KernelIdeal Cert.KernelIdeal.Gen Cert.Proof.Rounds Cert.Proof.RoundsValue Cert.Proof.Words

/-- The 0/1 matrix that sums the 36 positions of each query. -/
theorem sumq_apply (a : Fin 75) (r : Fin 2700) :
    (k2_pay4 (F := Ideal)) (ix2 a r) = if r.val / 36 = a.val then (1 : EReal) else 0 := by
  unfold k2_pay4
  pointwise
  rw [quot36]
  exact eq_flag _ _ (by omega) (by omega)

/-- The products, off the padding rows; the padding rows carry the mark. -/
theorem table_apply (v1 : FVec Ideal S2700x512 .f32) (v3 : FVec Ideal S960x512 .f32) (s : Fin 960) (r : Fin 2700) :
    table v1 v3 (ix2 s r) = if 180 ≤ s.val % 192 then Norm.mark
      else ∑ c : Fin 512, v3 (ix2 s c) * Ideal.rsqrt (max (Norm.sq fun c : Fin 512 => v3 (ix2 s c)) Norm.floor)
        * Norm.unit (fun c : Fin 512 => v1 (ix2 r c)) c := by
  unfold table k2_pay11 k2_pay10 k2_pay9
  pointwise
  rw [pad192]
  by_cases h : 180 ≤ s.val % 192
  · rw [if_pos h, if_pos h]; rfl
  · rw [if_neg h, if_neg h]; rfl

/-- The reciprocal of 36 by its name. -/
theorem inv_hw : Named.named (F := Ideal) Cert.KernelIdeal.κ "inv_hw" (φ := .f32) 0x3CE38E39#32 = ((1/36 : ℝ) : EReal) :=
  IdealRules.named_const.ideal_named_scalar _ _ _ _ rfl

/-- The reciprocal of 180 by its name. -/
theorem inv_seg : Named.named (F := Ideal) Cert.KernelIdeal.κ "inv_seg" (φ := .f32) 0x3BB60B61#32 = ((1/180 : ℝ) : EReal) :=
  IdealRules.named_const.ideal_named_scalar _ _ _ _ rfl

/-- The reciprocal of 375 by its name. -/
theorem inv_kq : Named.named (F := Ideal) Cert.KernelIdeal.κ "inv_kq" (φ := .f32) 0x3B2EC33E#32 = ((1/375 : ℝ) : EReal) :=
  IdealRules.named_const.ideal_named_scalar _ _ _ _ rfl

/-- A query's mean descriptor. -/
def qmean (v1 : FVec Ideal S2700x512 .f32) (a : Fin 75) (c : Fin 512) : EReal :=
  (∑ p : Fin 36, v1 (ix2 (⟨a.val * 36 + p.val, by omega⟩ : Fin 2700) c)) * ((1/36 : ℝ) : EReal)

/-- A way's mean descriptor. -/
def proto (v3 : FVec Ideal S960x512 .f32) (w : Fin 5) (c : Fin 512) : EReal :=
  (∑ p : Fin 192, v3 (ix2 (⟨w.val * 192 + p.val, by omega⟩ : Fin 960) c)) * ((1/180 : ℝ) : EReal)

/-- The cosines are the products of the normalised means. -/
theorem cosines_apply (v1 : FVec Ideal S2700x512 .f32) (v3 : FVec Ideal S960x512 .f32) (a : Fin 75) (w : Fin 5) :
    cosines v1 v3 (ix2 a w) = ∑ c : Fin 512, Norm.unit (qmean v1 a) c * Norm.unit (proto v3 w) c := by
  have e : ∀ r : Fin 960, (FloatOps.sitofp .f32 (BitVec.setWidth 32 (IntOp.cmpi CmpIPredicate.eq (BitVec.ofNat 32 (r.val / 192)) (BitVec.ofNat 32 w.val))) : Ideal .f32)
      = if r.val / 192 = w.val then (1 : EReal) else 0 := fun r => eq_flag _ _ (by omega) (by omega)
  unfold cosines k2_pay8 k2_pay7 k2_pay6 k2_pay5
  pointwise
  simp only [quot192, e, sumq_apply, sum_query, sum_way, inv_hw, inv_seg]
  rfl

/-- The first way's rows of the table. -/
theorem slice0 (M : FVec Ideal S960x2700 .f32) (i : Fin 192) (r : Fin 2700) :
    extractStridedSlice S192x2700 ![0, 0] M slices_S960x2700_o0_0_S192x2700 (ix2 i r) = M (ix2 (⟨0 + i.val, by omega⟩ : Fin 960) r) := by
  pointwise

/-- The second way's rows of the table. -/
theorem slice1 (M : FVec Ideal S960x2700 .f32) (i : Fin 192) (r : Fin 2700) :
    extractStridedSlice S192x2700 ![192, 0] M slices_S960x2700_o192_0_S192x2700 (ix2 i r) = M (ix2 (⟨192 + i.val, by omega⟩ : Fin 960) r) := by
  pointwise

/-- The third way's rows of the table. -/
theorem slice2 (M : FVec Ideal S960x2700 .f32) (i : Fin 192) (r : Fin 2700) :
    extractStridedSlice S192x2700 ![384, 0] M slices_S960x2700_o384_0_S192x2700 (ix2 i r) = M (ix2 (⟨384 + i.val, by omega⟩ : Fin 960) r) := by
  pointwise

/-- The fourth way's rows of the table. -/
theorem slice3 (M : FVec Ideal S960x2700 .f32) (i : Fin 192) (r : Fin 2700) :
    extractStridedSlice S192x2700 ![576, 0] M slices_S960x2700_o576_0_S192x2700 (ix2 i r) = M (ix2 (⟨576 + i.val, by omega⟩ : Fin 960) r) := by
  pointwise

/-- The fifth way's rows of the table. -/
theorem slice4 (M : FVec Ideal S960x2700 .f32) (i : Fin 192) (r : Fin 2700) :
    extractStridedSlice S192x2700 ![768, 0] M slices_S960x2700_o768_0_S192x2700 (ix2 i r) = M (ix2 (⟨768 + i.val, by omega⟩ : Fin 960) r) := by
  pointwise

/-- The five rounds on a way's rows of the table. -/
theorem way_apply (M : FVec Ideal S960x2700 .f32) (w : Fin 5) (r : Fin 2700) (o : ℕ) (ho : o + 192 ≤ 960) (he : o = w.val * 192)
    (N : FVec Ideal S192x2700 .f32) (hN : ∀ i : Fin 192, N (ix2 i r) = M (ix2 (⟨o + i.val, by omega⟩ : Fin 960) r)) (u : Fin 1) :
    rounds N (ix2 u r) = TopSum.topSum Norm.mark fun i : Fin 192 => M (ix2 (⟨w.val * 192 + i.val, by omega⟩ : Fin 960) r) := by
  obtain rfl : u = 0 := Subsingleton.elim _ _
  refine (rounds_apply N r).trans (congrArg (TopSum.topSum Norm.mark) (funext fun i => ?_))
  refine (hN i).trans (congrArg M ?_)
  congr 1
  exact Fin.ext (by show o + i.val = w.val * 192 + i.val; rw [he])

/-- A way's row of sums is the search of the way's 192 rows of the table. -/
theorem rows_apply (M : FVec Ideal S960x2700 .f32) (w : Fin 5) (r : Fin 2700) :
    rows M (ix2 w r) = TopSum.topSum Norm.mark fun i : Fin 192 => M (ix2 (⟨w.val * 192 + i.val, by omega⟩ : Fin 960) r) := by
  unfold rows
  pointwise
  by_cases h0 : w.val < 1
  · rw [dif_pos h0]
    refine way_apply M w r 0 (by omega) (by omega) _ ?_ _
    exact fun i => slice0 M i r
  by_cases h1 : w.val - 1 < 1
  · rw [dif_neg h0, dif_pos h1]
    refine way_apply M w r 192 (by omega) (by omega) _ ?_ _
    exact fun i => slice1 M i r
  by_cases h2 : w.val - 1 - 1 < 1
  · rw [dif_neg h0, dif_neg h1, dif_pos h2]
    refine way_apply M w r 384 (by omega) (by omega) _ ?_ _
    exact fun i => slice2 M i r
  by_cases h3 : w.val - 1 - 1 - 1 < 1
  · rw [dif_neg h0, dif_neg h1, dif_neg h2, dif_pos h3]
    refine way_apply M w r 576 (by omega) (by omega) _ ?_ _
    exact fun i => slice3 M i r
  rw [dif_neg h0, dif_neg h1, dif_neg h2, dif_neg h3]
  refine way_apply M w r 768 (by omega) (by omega) _ ?_ _
  exact fun i => slice4 M i r

/-- The matching score sums a query's 36 columns. -/
theorem matching_apply (R : FVec Ideal S5x2700 .f32) (a : Fin 75) (w : Fin 5) :
    matching R (ix2 a w) = Ideal.sqrt (∑ p : Fin 36, R (ix2 w (⟨a.val * 36 + p.val, by omega⟩ : Fin 2700))) * ((1/375 : ℝ) : EReal) := by
  unfold matching
  pointwise
  simp only [sumq_apply, sum_query, inv_kq]

/-- What the body stores, entry by entry. -/
theorem score_apply (p0 p1 : EReal) (v1 : FVec Ideal S2700x512 .f32) (v3 : FVec Ideal S960x512 .f32) (a : Fin 75) (w : Fin 5) :
    score (F := Ideal) p0 p1 v1 v3 (ix3 (0 : Fin 1) a w)
      = p0 * (∑ c : Fin 512, Norm.unit (qmean v1 a) c * Norm.unit (proto v3 w) c)
        + p1 * (Ideal.sqrt (∑ p : Fin 36, TopSum.topSum Norm.mark fun i : Fin 192 =>
            if 180 ≤ i.val then Norm.mark
            else ∑ c : Fin 512, v3 (ix2 (⟨w.val * 192 + i.val, by omega⟩ : Fin 960) c)
              * Ideal.rsqrt (max (Norm.sq fun c : Fin 512 => v3 (ix2 (⟨w.val * 192 + i.val, by omega⟩ : Fin 960) c)) Norm.floor)
              * Norm.unit (fun c : Fin 512 => v1 (ix2 (⟨a.val * 36 + p.val, by omega⟩ : Fin 2700) c)) c)
          * ((1/375 : ℝ) : EReal)) := by
  unfold score
  pointwise
  rw [cosines_apply, matching_apply]
  simp only [rows_apply, table_apply]
  have e : ∀ i : Fin 192, (w.val * 192 + i.val) % 192 = i.val := fun i => by omega
  simp only [e]

end Cert.Proof.BlockValue

end
-- ==== Proof.Arrays.lean ====
/-
  What each of the three pipelined calls leaves in its result array, at the exact numbers, from the arrays it finds.
-/
module

public import proofs.«01_k».proof.Proof.EncoderBlock
public import proofs.«01_k».proof.Proof.BlockValue

@[expose] public section

set_option maxRecDepth 16384

noncomputable section

open Idealize.ShloMosaic Idealize.ShloMosaic.TcCoe Idealize.SL.Sem

namespace Cert.Proof.Arrays

open Cert.KernelIdeal Cert.KernelIdeal.Gen Cert.Proof.Rounds Cert.Proof.EncoderBlock

variable (V : (c : Dev nD) → (b : Ref sig .tc) → Buf (Elt Ideal) ((c : Thread nD τ).loc b)) (c : Dev nD)

/-- The encoder's result over all column blocks. -/
def encode {n : ℕ} (x : (⟨2, ![n, 27648]⟩ : Shape).Idx → EReal) (w : S4608x3072.Idx → EReal) : (⟨3, ![n, 6, 3072]⟩ : Shape).Idx → EReal :=
  fun j => entry x w (j 0) (j 1) (j 2)

/-- An encoded entry depends on the image's row and the weights' column alone. -/
theorem entry_congr {n m n' m' : ℕ} {x : (⟨2, ![n, 27648]⟩ : Shape).Idx → EReal} {w : (⟨2, ![4608, m]⟩ : Shape).Idx → EReal}
    {x' : (⟨2, ![n', 27648]⟩ : Shape).Idx → EReal} {w' : (⟨2, ![4608, m']⟩ : Shape).Idx → EReal}
    {i : Fin n} {c : Fin m} {i' : Fin n'} {c' : Fin m'}
    (hx : ∀ q : Fin 27648, x (ix2 i q) = x' (ix2 i' q)) (hw : ∀ q : Fin 4608, w (ix2 q c) = w' (ix2 q c')) (y : Fin 6) :
    entry x w i y c = entry x' w' i' y c' := by
  unfold entry
  simp only [hx, hw]

/-- Where the blocks of the shots' encoder stand. -/
theorem idx0_0 : ∀ t : Fin cfg0.N, win0_0.index t = ![0, 0] := (by decide +kernel : ∀ t : Fin grid0.N, _)
/-- The blocks of the wide weights. -/
theorem idx0_1 : ∀ t : Fin cfg0.N, win0_1.index t = ![0, t.val] := (by decide +kernel : ∀ t : Fin grid0.N, _)
/-- The blocks of the result. -/
theorem idx0_2 : ∀ t : Fin cfg0.N, win0_2.index t = ![0, 0, t.val] := (by decide +kernel : ∀ t : Fin grid0.N, _)

/-- The shots' encoder leaves the encoded shots. -/
theorem shots : (dat0 V c).arrAt 2 cfg0.N = encode (V c main_v14) (V c main_v13) := by
  refine (dat0 V c).arrAt_eq_of_covers 2 _ (by decide +kernel) fun t hf y => ?_
  blk_simp
  rw [after0_2]
  obtain ⟨i, r, k, rfl⟩ : ∃ (i : Fin 100) (r : Fin 6) (k : Fin 512), y = ix3 i r k := ⟨y 0, y 1, y 2, by funext a; fin_cases a <;> rfl⟩
  have ht : t.val < 6 := t.isLt
  have he : (win0_2.blk t).view.emb (ix3 i r k) = ix3 i r (⟨t.val * 512 + k.val, by omega⟩ : Fin 3072) := by
    blk_ext [idx0_2 t]
  rw [out0_apply, he]
  refine entry_congr ?_ ?_ r
  · intro q
    blk_simp [iblk0]
    refine congrArg (V c main_v14) ?_
    blk_ext [idx0_0 t]
  · intro q
    blk_simp [iblk0]
    refine congrArg (V c main_v13) ?_
    blk_ext [idx0_1 t]

/-- Where the blocks of the queries' encoder stand. -/
theorem idx1_0 : ∀ t : Fin cfg1.N, win1_0.index t = ![0, 0] := (by decide +kernel : ∀ t : Fin grid1.N, _)
/-- The blocks of the wide weights. -/
theorem idx1_1 : ∀ t : Fin cfg1.N, win1_1.index t = ![0, t.val] := (by decide +kernel : ∀ t : Fin grid1.N, _)
/-- The blocks of the result. -/
theorem idx1_2 : ∀ t : Fin cfg1.N, win1_2.index t = ![0, 0, t.val] := (by decide +kernel : ∀ t : Fin grid1.N, _)

/-- The queries' encoder leaves the encoded queries. -/
theorem queries : (dat1 V c).arrAt 2 cfg1.N = encode (V c main_v15) (V c main_v13) := by
  refine (dat1 V c).arrAt_eq_of_covers 2 _ (by decide +kernel) fun t hf y => ?_
  blk_simp
  rw [after1_2]
  obtain ⟨i, r, k, rfl⟩ : ∃ (i : Fin 300) (r : Fin 6) (k : Fin 512), y = ix3 i r k := ⟨y 0, y 1, y 2, by funext a; fin_cases a <;> rfl⟩
  have ht : t.val < 6 := t.isLt
  have he : (win1_2.blk t).view.emb (ix3 i r k) = ix3 i r (⟨t.val * 512 + k.val, by omega⟩ : Fin 3072) := by
    blk_ext [idx1_2 t]
  rw [out1_apply, he]
  refine entry_congr ?_ ?_ r
  · intro q
    blk_simp [iblk1]
    refine congrArg (V c main_v15) ?_
    blk_ext [idx1_0 t]
  · intro q
    blk_simp [iblk1]
    refine congrArg (V c main_v13) ?_
    blk_ext [idx1_1 t]

/-- The scores, from the parameters and the two arrays of features. -/
def scores (p : S2.Idx → EReal) (fq : S4x2700x512.Idx → EReal) (fs : S4x960x512.Idx → EReal) : S4x75x5.Idx → EReal :=
  fun j => score (F := Ideal) (p (ix1 (0 : Fin 2))) (p (ix1 (1 : Fin 2)))
    (fun k => fq (ix3 (j 0) (k 0) (k 1))) (fun k => fs (ix3 (j 0) (k 0) (k 1))) (ix3 (0 : Fin 1) (j 1) (j 2))

/-- Where the blocks of the scoring call stand: the parameters; -/
theorem idx2_0 : ∀ t : Fin cfg2.N, win2_0.index t = ![0] := (by decide +kernel : ∀ t : Fin grid2.N, _)
/-- the queries' features; -/
theorem idx2_1 : ∀ t : Fin cfg2.N, win2_1.index t = ![t.val, 0, 0] := (by decide +kernel : ∀ t : Fin grid2.N, _)
/-- the shots' features; -/
theorem idx2_2 : ∀ t : Fin cfg2.N, win2_2.index t = ![t.val, 0, 0] := (by decide +kernel : ∀ t : Fin grid2.N, _)
/-- the scores. -/
theorem idx2_3 : ∀ t : Fin cfg2.N, win2_3.index t = ![t.val, 0, 0] := (by decide +kernel : ∀ t : Fin grid2.N, _)

/-- A block of the queries' features without its unit axis. -/
theorem pay2_apply (x : Vec Ideal S1x2700x512 .f32) (r : Fin 2700) (k : Fin 512) :
    k2_pay2 x (ix2 r k) = x (ix3 (0 : Fin 1) r k) := by
  unfold k2_pay2
  pointwise

/-- A block of the shots' features without its unit axis. -/
theorem pay3_apply (x : Vec Ideal S1x960x512 .f32) (r : Fin 960) (k : Fin 512) :
    k2_pay3 x (ix2 r k) = x (ix3 (0 : Fin 1) r k) := by
  unfold k2_pay3
  pointwise

/-- The scoring call leaves the scores. -/
theorem result : (dat2 V c).arrAt 3 cfg2.N = scores (V c main_v28) (V c main_v21) (V c main_v20) := by
  refine (dat2 V c).arrAt_eq_of_covers 3 _ (by decide +kernel) fun t hf y => ?_
  blk_simp
  rw [after2_3, outsAt2_eq]
  obtain ⟨u, a, w, rfl⟩ : ∃ (u : Fin 1) (a : Fin 75) (w : Fin 5), y = ix3 u a w := ⟨y 0, y 1, y 2, by funext a; fin_cases a <;> rfl⟩
  obtain rfl : u = 0 := Subsingleton.elim _ _
  have ht : t.val < 4 := t.isLt
  have he : (win2_3.blk t).view.emb (ix3 (0 : Fin 1) a w) = ix3 (⟨t.val, ht⟩ : Fin 4) a w := by
    blk_ext [idx2_3 t]
  rw [he]
  have h0 : ∀ q : Fin 2, iblk2 V c 0 t (ix1 q) = V c main_v28 (ix1 q) := fun q => by
    blk_simp [iblk2]
    refine congrArg (V c main_v28) ?_
    blk_ext [idx2_0 t]
  have h1 : k2_pay2 (iblk2 V c 1 t) = fun k => V c main_v21 (ix3 (⟨t.val, ht⟩ : Fin 4) (k 0) (k 1)) := by
    funext k
    obtain ⟨r, k, rfl⟩ : ∃ (r : Fin 2700) (l : Fin 512), k = ix2 r l := ⟨k 0, k 1, by funext a; fin_cases a <;> rfl⟩
    rw [pay2_apply]
    blk_simp [iblk2]
    refine congrArg (V c main_v21) ?_
    blk_ext [idx2_1 t]
  have h2 : k2_pay3 (iblk2 V c 2 t) = fun k => V c main_v20 (ix3 (⟨t.val, ht⟩ : Fin 4) (k 0) (k 1)) := by
    funext k
    obtain ⟨r, k, rfl⟩ : ∃ (r : Fin 960) (l : Fin 512), k = ix2 r l := ⟨k 0, k 1, by funext a; fin_cases a <;> rfl⟩
    rw [pay3_apply]
    blk_simp [iblk2]
    refine congrArg (V c main_v20) ?_
    blk_ext [idx2_2 t]
  rw [h0, h0, h1, h2]
  rfl

end Cert.Proof.Arrays

end
-- ==== Proof.Features.lean ====
/-
  The descriptors of the problem: an image cut into 6×6 patches, each patch against the 512 filters, clamped at zero.
-/
module

public import Idealize.ShloMosaic.Lib.Pipeline.ValueKit
public import Idealize.ShloMosaic.Lib.ValueIdxRank6

@[expose] public section

set_option maxRecDepth 16384

noncomputable section

open Idealize.ShloMosaic Idealize.ShloMosaic.TcCoe Idealize.SL.Sem

namespace Cert.Proof.Features

/-- One descriptor's entry: the patch at row `y` and column `x` of an image against filter `c`, clamped at zero. -/
def patch (X : Fin 3 → Fin 96 → Fin 96 → EReal) (W : (⟨4, ![512, 3, 16, 16]⟩ : Shape).Idx → EReal) (y x : Fin 6) (c : Fin 512) : EReal :=
  max (∑ i : Fin 3, ∑ p : Fin 16, ∑ q : Fin 16,
    X i ⟨y.val * 16 + p.val, by omega⟩ ⟨x.val * 16 + q.val, by omega⟩ * W (ix4 c i p q)) 0

/-- A descriptor's entry is nonnegative. -/
theorem patch_nonneg (X : Fin 3 → Fin 96 → Fin 96 → EReal) (W : (⟨4, ![512, 3, 16, 16]⟩ : Shape).Idx → EReal) (y x : Fin 6) (c : Fin 512) :
    0 ≤ patch X W y x c := le_max_right _ _

/-- The descriptors of the shots: of episode `b` and way `w`, the 5 shots' 36 positions in one row of 180. -/
def shot (xs : (⟨6, ![4, 5, 5, 3, 96, 96]⟩ : Shape).Idx → EReal) (W : (⟨4, ![512, 3, 16, 16]⟩ : Shape).Idx → EReal)
    (b : Fin 4) (w : Fin 5) (r : Fin 180) (c : Fin 512) : EReal :=
  patch (fun i u v => xs (ix6 b w (⟨r.val / 36, by omega⟩ : Fin 5) i u v)) W ⟨r.val / 6 % 6, by omega⟩ ⟨r.val % 6, by omega⟩ c

/-- The descriptors of the queries: of episode `b` and query `a`, at the 36 positions. -/
def query (xq : (⟨5, ![4, 75, 3, 96, 96]⟩ : Shape).Idx → EReal) (W : (⟨4, ![512, 3, 16, 16]⟩ : Shape).Idx → EReal)
    (b : Fin 4) (a : Fin 75) (p : Fin 36) (c : Fin 512) : EReal :=
  patch (fun i u v => xq (ix5 b a i u v)) W ⟨p.val / 6, by omega⟩ ⟨p.val % 6, by omega⟩ c

/-- A sum over an index split in two. -/
theorem sum_split {m n : ℕ} (f : Fin (m * n) → EReal) :
    ∑ r, f r = ∑ a : Fin m, ∑ p : Fin n, f ⟨a.val * n + p.val, by nlinarith [a.isLt, p.isLt]⟩ := by
  rw [← finProdFinEquiv.sum_comp, Fintype.sum_prod_type]
  refine Finset.sum_congr rfl fun a _ => Finset.sum_congr rfl fun p _ => congrArg f ?_
  ext
  simp [finProdFinEquiv]
  ring

/-- One row of patches' 1536 pixels of a channel, split into the row within the patch, the patch and the column within it. -/
theorem sum_pixels (f : Fin 1536 → EReal) :
    ∑ k, f k = ∑ p : Fin 16, ∑ g : Fin 6, ∑ q : Fin 16, f ⟨p.val * 96 + g.val * 16 + q.val, by omega⟩ := by
  refine (sum_split (m := 16) (n := 96) f).trans (Finset.sum_congr rfl fun p _ => ?_)
  refine (sum_split (m := 6) (n := 16) fun k : Fin 96 => f ⟨p.val * 96 + k.val, by omega⟩).trans
    (Finset.sum_congr rfl fun g _ => Finset.sum_congr rfl fun q _ => congrArg f ?_)
  ext
  simp only
  omega

/-- Weights that are zero off one patch of the row leave the sum over that patch. -/
theorem sum_patch (X : Fin 1536 → EReal) (W : Fin 16 → Fin 16 → EReal) (x : Fin 6) :
    ∑ k : Fin 1536, X k * (W ⟨k.val / 96, by omega⟩ ⟨k.val % 16, by omega⟩ * (if k.val / 16 % 6 = x.val then 1 else 0))
      = ∑ p : Fin 16, ∑ q : Fin 16, X ⟨p.val * 96 + x.val * 16 + q.val, by omega⟩ * W p q := by
  rw [sum_pixels]
  refine Finset.sum_congr rfl fun p _ => ?_
  rw [Finset.sum_eq_single x]
  · refine Finset.sum_congr rfl fun q _ => ?_
    have h1 : (p.val * 96 + x.val * 16 + q.val) / 96 = p.val := by omega
    have h2 : (p.val * 96 + x.val * 16 + q.val) % 16 = q.val := by omega
    have h3 : (p.val * 96 + x.val * 16 + q.val) / 16 % 6 = x.val := by omega
    simp only [h1, h2, h3, if_true, mul_one]
  · intro g _ hg
    refine Finset.sum_eq_zero fun q _ => ?_
    have h3 : (p.val * 96 + g.val * 16 + q.val) / 16 % 6 = g.val := by omega
    simp only [h3]
    rw [if_neg (fun h => hg (Fin.ext h)), mul_zero, mul_zero]
  · intro h; exact absurd (Finset.mem_univ _) h

end Cert.Proof.Features

end
-- ==== Proof.Host.lean ====
/-
  What the kernel's host operations hand to the three calls, and the kernel's result, read at an index from the arguments.
-/
module

public import proofs.«01_k».proof.Proof.Arrays
public import proofs.«01_k».proof.Proof.Features
public import Idealize.ShloMosaic.Lib.StableHlo.ReadAt

@[expose] public section

set_option maxRecDepth 16384

noncomputable section

open Idealize.ShloMosaic Idealize.ShloMosaic.TcCoe Idealize.SL.Sem

namespace Cert.Proof.Host

open Cert.KernelIdeal Cert.KernelIdeal.Gen

variable (m : (ℓ : Loc nD τ sig) → Buf (Elt Ideal) ℓ) (ρ : Dev nD → PrngReg) (c : Dev nD)

/-- The shots' images; -/
abbrev xs : S4x5x5x3x96x96.Idx → EReal := m ((c : Thread nD τ).loc main_arg0)
/-- the queries' images; -/
abbrev xq : S4x75x3x96x96.Idx → EReal := m ((c : Thread nD τ).loc main_arg1)
/-- the filters; -/
abbrev ws : S512x3x16x16.Idx → EReal := m ((c : Thread nD τ).loc main_arg2)
/-- the weight of the cosines; -/
abbrev rc : S1.Idx → EReal := m ((c : Thread nD τ).loc main_arg3)
/-- the weight of the local matches; -/
abbrev rd : S1.Idx → EReal := m ((c : Thread nD τ).loc main_arg4)
/-- the temperature. -/
abbrev tp : S_.Idx → EReal := m ((c : Thread nD τ).loc main_arg5)

/-- An equality of words made a number. -/
theorem flag_eq (x y : ℕ) (hx : x < 6) (hy : y < 6) :
    (FloatOps.uitofp FTy.bf16 (IntOp.cmpi CmpIPredicate.eq (IntOp.addi (BitVec.ofNat 32 x) 0#32) (BitVec.ofNat 32 y)) : Ideal .bf16)
      = (if x = y then (1 : EReal) else 0) := by
  have h : IntOp.cmpi CmpIPredicate.eq (IntOp.addi (BitVec.ofNat 32 x) 0#32) (BitVec.ofNat 32 y) = if x = y then 1#1 else 0#1 := by
    interval_cases x <;> interval_cases y <;> decide
  rw [h]
  split_ifs
  · show (((1#1).toNat : ℝ) : EReal) = 1
    norm_num
  · show (((0#1).toNat : ℝ) : EReal) = 0
    norm_num

/-- The wide weights: the filter's entry where the column's position is the image's column of patches, else zero. -/
theorem weights (r : Fin 4608) (k : Fin 3072) :
    V1 m ρ c main_v13 (ix2 r k)
      = ws m c (ix4 (⟨k.val % 512, by omega⟩ : Fin 512) (⟨r.val / 1536, by omega⟩ : Fin 3)
          (⟨r.val / 96 % 16, by omega⟩ : Fin 16) (⟨r.val % 16, by omega⟩ : Fin 16))
        * (if r.val / 16 % 6 = k.val / 512 then 1 else (0 : EReal)) := by
  unfold V1 W1
  after_reads_at
  exact congrArg (fun z : EReal => ws m c (ix4 (⟨k.val % 512, by omega⟩ : Fin 512) (⟨r.val / 1536, by omega⟩ : Fin 3)
          (⟨r.val / 96 % 16, by omega⟩ : Fin 16) (⟨r.val % 16, by omega⟩ : Fin 16)) * z)
    (flag_eq (r.val / 16 % 6) (k.val / 512) (by omega) (by omega))

/-- The shots' images, one row each. -/
theorem shots (n : Fin 100) (k : Fin 27648) : V1 m ρ c main_v14 (ix2 n k)
    = xs m c (ix6 (⟨n.val / 25, by omega⟩ : Fin 4) (⟨n.val / 5 % 5, by omega⟩ : Fin 5) (⟨n.val % 5, by omega⟩ : Fin 5)
        (⟨k.val / 9216, by omega⟩ : Fin 3) (⟨k.val / 96 % 96, by omega⟩ : Fin 96) (⟨k.val % 96, by omega⟩ : Fin 96)) := by
  unfold V1 W1
  after_reads_at

/-- The queries' images, one row each. -/
theorem queries (n : Fin 300) (k : Fin 27648) : V1 m ρ c main_v15 (ix2 n k)
    = xq m c (ix5 (⟨n.val / 75, by omega⟩ : Fin 4) (⟨n.val % 75, by omega⟩ : Fin 75)
        (⟨k.val / 9216, by omega⟩ : Fin 3) (⟨k.val / 96 % 96, by omega⟩ : Fin 96) (⟨k.val % 96, by omega⟩ : Fin 96)) := by
  unfold V1 W1
  after_reads_at

/-- An encoded entry under the wide weights is the descriptor's entry. -/
theorem entry_patch {n : ℕ} (x : (⟨2, ![n, 27648]⟩ : Shape).Idx → EReal) (w : S4608x3072.Idx → EReal) (W : S512x3x16x16.Idx → EReal)
    (X : Fin 3 → Fin 96 → Fin 96 → EReal) (i : Fin n)
    (hx : ∀ k : Fin 27648, x (ix2 i k) = X ⟨k.val / 9216, by omega⟩ ⟨k.val / 96 % 96, by omega⟩ ⟨k.val % 96, by omega⟩)
    (hw : ∀ (r : Fin 4608) (k : Fin 3072), w (ix2 r k) = W (ix4 (⟨k.val % 512, by omega⟩ : Fin 512) (⟨r.val / 1536, by omega⟩ : Fin 3)
          (⟨r.val / 96 % 16, by omega⟩ : Fin 16) (⟨r.val % 16, by omega⟩ : Fin 16))
        * (if r.val / 16 % 6 = k.val / 512 then 1 else (0 : EReal))) (y : Fin 6) (k : Fin 3072) :
    EncoderBlock.entry x w i y k = Features.patch X W y ⟨k.val / 512, by omega⟩ ⟨k.val % 512, by omega⟩ := by
  have key : ∀ (ch : Fin 3) (f : Fin 1536 → Fin 27648) (g : Fin 1536 → Fin 4608)
      (hf : ∀ k, (f k).val = ch.val * 9216 + y.val * 1536 + k.val) (hg : ∀ k, (g k).val = ch.val * 1536 + k.val),
      ∑ q : Fin 1536, x (ix2 i (f q)) * w (ix2 (g q) k)
        = ∑ p : Fin 16, ∑ q : Fin 16, X ch ⟨y.val * 16 + p.val, by omega⟩ ⟨k.val / 512 * 16 + q.val, by omega⟩
            * W (ix4 (⟨k.val % 512, by omega⟩ : Fin 512) ch p q) := by
    intro ch f g hf hg
    have h := Features.sum_patch (fun q => x (ix2 i (f q))) (fun p q => W (ix4 (⟨k.val % 512, by omega⟩ : Fin 512) ch p q)) ⟨k.val / 512, by omega⟩
    refine (Finset.sum_congr rfl fun q _ => ?_).trans (h.trans (Finset.sum_congr rfl fun p _ => Finset.sum_congr rfl fun q _ => ?_))
    · rw [hw]
      have h1 : (g q).val / 1536 = ch.val := by rw [hg]; omega
      have h2 : (g q).val / 96 % 16 = q.val / 96 := by rw [hg]; omega
      have h3 : (g q).val % 16 = q.val % 16 := by rw [hg]; omega
      have h4 : (g q).val / 16 % 6 = q.val / 16 % 6 := by rw [hg]; omega
      simp only [h1, h2, h3, h4]
    · beta_reduce
      rw [hx]
      have h1 : (f ⟨p.val * 96 + k.val / 512 * 16 + q.val, by omega⟩).val / 9216 = ch.val := by rw [hf]; simp only; omega
      have h2 : (f ⟨p.val * 96 + k.val / 512 * 16 + q.val, by omega⟩).val / 96 % 96 = y.val * 16 + p.val := by rw [hf]; simp only; omega
      have h3 : (f ⟨p.val * 96 + k.val / 512 * 16 + q.val, by omega⟩).val % 96 = k.val / 512 * 16 + q.val := by rw [hf]; simp only; omega
      simp only [h1, h2, h3]
  unfold EncoderBlock.entry Features.patch
  rw [Fin.sum_univ_three]
  rw [← key 0 (fun q => ⟨y.val * 1536 + q.val, by omega⟩) (fun q => ⟨q.val, by omega⟩) (fun q => by simp) (fun q => by simp),
    ← key 1 (fun q => ⟨9216 + y.val * 1536 + q.val, by omega⟩) (fun q => ⟨1536 + q.val, by omega⟩) (fun q => by simp) (fun q => by simp),
    ← key 2 (fun q => ⟨18432 + y.val * 1536 + q.val, by omega⟩) (fun q => ⟨3072 + q.val, by omega⟩) (fun q => by simp) (fun q => by simp)]

end Cert.Proof.Host

end
-- ==== Proof.HostInputs.lean ====
/-
  What the third call finds: the descriptors of the shots and of the queries, and the two parameters.
-/
module

public import proofs.«01_k».proof.Proof.Host

@[expose] public section

set_option maxRecDepth 16384

noncomputable section

open Idealize.ShloMosaic Idealize.ShloMosaic.TcCoe Idealize.SL.Sem

namespace Cert.Proof.Host

open Cert.KernelIdeal Cert.KernelIdeal.Gen

variable (m : (ℓ : Loc nD τ sig) → Buf (Elt Ideal) ℓ) (ρ : Dev nD → PrngReg) (c : Dev nD)

/-- The first call leaves the shots' encoded features. -/
theorem feat_shots : W3 m ρ c (Proc.devRef .tc main_v16) = Arrays.encode (V1 m ρ c main_v14) (V1 m ρ c main_v13) :=
  (W3_of m ρ c main_v16 (by decide)).trans ((W2_arr m ρ c 2).trans (Arrays.shots (V1 m ρ) c))

/-- The second call leaves the queries' encoded features. -/
theorem feat_queries : W3 m ρ c (Proc.devRef .tc main_v17) = Arrays.encode (V1 m ρ c main_v15) (V1 m ρ c main_v13) := by
  refine (W3_arr m ρ c 2).trans ((Arrays.queries (V2 m ρ) c).trans ?_)
  exact congrArg₂ Arrays.encode (W2_of m ρ c main_v15 (by decide)) (W2_of m ρ c main_v13 (by decide))

/-- The integer zero that fills the padding, made a number. -/
theorem fill : (FloatOps.sitofp FTy.f32 0#32 : Ideal .f32) = (0 : EReal) := by
  show (((0#32).toInt : ℝ) : EReal) = 0
  norm_num

/-- Of the shots it finds the padded rows of the encoded features; -/
theorem read_shots (b : Fin 4) (r : Fin 960) (k : Fin 512) : V6 m ρ c main_v20 (ix3 b r k)
    = if h : r.val / 192 < 5 ∧ r.val % 192 < 180 then
        W3 m ρ c (Proc.devRef .tc main_v16)
          (ix3 (⟨b.val * 25 + r.val / 192 * 5 + r.val % 192 / 36, by omega⟩ : Fin 100) (⟨r.val % 192 / 6 % 6, by omega⟩ : Fin 6)
            (⟨r.val % 192 % 6 * 512 + k.val, by omega⟩ : Fin 3072))
      else (FloatOps.sitofp FTy.f32 0#32 : Ideal .f32) := by
  unfold V6 W6 W5 W4
  after_reads_at

/-- of the queries the rows as encoded; -/
theorem read_queries (b : Fin 4) (r : Fin 2700) (k : Fin 512) : V6 m ρ c main_v21 (ix3 b r k)
    = W3 m ρ c (Proc.devRef .tc main_v17)
          (ix3 (⟨b.val * 75 + r.val / 36, by omega⟩ : Fin 300) (⟨r.val / 6 % 6, by omega⟩ : Fin 6)
            (⟨r.val % 6 * 512 + k.val, by omega⟩ : Fin 3072)) := by
  unfold V6 W6 W5 W4
  after_reads_at

/-- and the two products of parameters, -/
theorem in_rc : V6 m ρ c main_v28 (ix1 (0 : Fin 2)) = tp m c ix0 * rc m c (ix1 (0 : Fin 1)) := by
  have e5 : W3 m ρ c (Proc.devRef .tc main_arg5) = tp m c := W3_args m ρ c main_arg5 (by decide)
  have e3 : W3 m ρ c (Proc.devRef .tc main_arg3) = rc m c := W3_args m ρ c main_arg3 (by decide)
  unfold V6 W6 W5 W4
  after_reads_at
  exact congrArg₂ (fun x y : EReal => x * y) (congrFun e5 ix0) (congrFun e3 (ix1 (0 : Fin 1)))

/-- the second as the first. -/
theorem in_rd : V6 m ρ c main_v28 (ix1 (1 : Fin 2)) = tp m c ix0 * rd m c (ix1 (0 : Fin 1)) := by
  have e5 : W3 m ρ c (Proc.devRef .tc main_arg5) = tp m c := W3_args m ρ c main_arg5 (by decide)
  have e4 : W3 m ρ c (Proc.devRef .tc main_arg4) = rd m c := W3_args m ρ c main_arg4 (by decide)
  unfold V6 W6 W5 W4
  after_reads_at
  exact congrArg₂ (fun x y : EReal => x * y) (congrFun e5 ix0) (congrFun e4 (ix1 (0 : Fin 1)))

/-- The wide weights of a filter bank. -/
def Wide (w : S4608x3072.Idx → EReal) (W : S512x3x16x16.Idx → EReal) : Prop :=
  ∀ (r : Fin 4608) (k : Fin 3072), w (ix2 r k) = W (ix4 (⟨k.val % 512, by omega⟩ : Fin 512) (⟨r.val / 1536, by omega⟩ : Fin 3)
          (⟨r.val / 96 % 16, by omega⟩ : Fin 16) (⟨r.val % 16, by omega⟩ : Fin 16))
        * (if r.val / 16 % 6 = k.val / 512 then 1 else (0 : EReal))

/-- The encoded features of the shots are their descriptors. -/
theorem encode_shot (X : S100x27648.Idx → EReal) (w : S4608x3072.Idx → EReal) (x : S4x5x5x3x96x96.Idx → EReal) (W : S512x3x16x16.Idx → EReal)
    (hX : ∀ (n : Fin 100) (k : Fin 27648), X (ix2 n k)
      = x (ix6 (⟨n.val / 25, by omega⟩ : Fin 4) (⟨n.val / 5 % 5, by omega⟩ : Fin 5) (⟨n.val % 5, by omega⟩ : Fin 5)
        (⟨k.val / 9216, by omega⟩ : Fin 3) (⟨k.val / 96 % 96, by omega⟩ : Fin 96) (⟨k.val % 96, by omega⟩ : Fin 96)))
    (hw : Wide w W) (b : Fin 4) (v : Fin 5) (r : Fin 180) (k : Fin 512) (n : Fin 100) (y : Fin 6) (z : Fin 3072)
    (hn : n.val = b.val * 25 + v.val * 5 + r.val / 36) (hy : y.val = r.val / 6 % 6) (hz : z.val = r.val % 6 * 512 + k.val) :
    Arrays.encode X w (ix3 n y z) = Features.shot x W b v r k := by
  refine (entry_patch X w W (fun i u t => x (ix6 (⟨n.val / 25, by omega⟩ : Fin 4) (⟨n.val / 5 % 5, by omega⟩ : Fin 5) (⟨n.val % 5, by omega⟩ : Fin 5) i u t))
    n (fun q => hX n q) hw y z).trans ?_
  unfold Features.shot
  have h1 : (⟨n.val / 25, by omega⟩ : Fin 4) = b := Fin.ext (by show n.val / 25 = b.val; omega)
  have h2 : (⟨n.val / 5 % 5, by omega⟩ : Fin 5) = v := Fin.ext (by show n.val / 5 % 5 = v.val; omega)
  have h3 : (⟨n.val % 5, by omega⟩ : Fin 5) = ⟨r.val / 36, by omega⟩ := Fin.ext (by show n.val % 5 = r.val / 36; omega)
  have h4 : y = ⟨r.val / 6 % 6, by omega⟩ := Fin.ext hy
  have h5 : (⟨z.val / 512, by omega⟩ : Fin 6) = ⟨r.val % 6, by omega⟩ := Fin.ext (by show z.val / 512 = r.val % 6; omega)
  have h6 : (⟨z.val % 512, by omega⟩ : Fin 512) = k := Fin.ext (by show z.val % 512 = k.val; omega)
  rw [h1, h2, h3, h5, h6]
  exact congrArg (fun t => Features.patch _ W t _ k) h4

/-- The encoded features of the queries are their descriptors. -/
theorem encode_query (X : S300x27648.Idx → EReal) (w : S4608x3072.Idx → EReal) (x : S4x75x3x96x96.Idx → EReal) (W : S512x3x16x16.Idx → EReal)
    (hX : ∀ (n : Fin 300) (k : Fin 27648), X (ix2 n k)
      = x (ix5 (⟨n.val / 75, by omega⟩ : Fin 4) (⟨n.val % 75, by omega⟩ : Fin 75)
        (⟨k.val / 9216, by omega⟩ : Fin 3) (⟨k.val / 96 % 96, by omega⟩ : Fin 96) (⟨k.val % 96, by omega⟩ : Fin 96)))
    (hw : Wide w W) (b : Fin 4) (a : Fin 75) (p : Fin 36) (k : Fin 512) (n : Fin 300) (y : Fin 6) (z : Fin 3072)
    (hn : n.val = b.val * 75 + a.val) (hy : y.val = p.val / 6) (hz : z.val = p.val % 6 * 512 + k.val) :
    Arrays.encode X w (ix3 n y z) = Features.query x W b a p k := by
  refine (entry_patch X w W (fun i u t => x (ix5 (⟨n.val / 75, by omega⟩ : Fin 4) (⟨n.val % 75, by omega⟩ : Fin 75) i u t))
    n (fun q => hX n q) hw y z).trans ?_
  unfold Features.query
  have h1 : (⟨n.val / 75, by omega⟩ : Fin 4) = b := Fin.ext (by show n.val / 75 = b.val; omega)
  have h2 : (⟨n.val % 75, by omega⟩ : Fin 75) = a := Fin.ext (by show n.val % 75 = a.val; omega)
  have h4 : y = ⟨p.val / 6, by omega⟩ := Fin.ext hy
  have h5 : (⟨z.val / 512, by omega⟩ : Fin 6) = ⟨p.val % 6, by omega⟩ := Fin.ext (by show z.val / 512 = p.val % 6; omega)
  have h6 : (⟨z.val % 512, by omega⟩ : Fin 512) = k := Fin.ext (by show z.val % 512 = k.val; omega)
  rw [h1, h2, h5, h6]
  exact congrArg (fun t => Features.patch _ W t _ k) h4

/-- What the third call finds of the shots: their descriptors, each way's 180 rows followed by 12 rows of zeros. -/
theorem in_shots (b : Fin 4) (r : Fin 960) (k : Fin 512) : V6 m ρ c main_v20 (ix3 b r k)
    = if h : r.val % 192 < 180 then
        Features.shot (xs m c) (ws m c) b ⟨r.val / 192, by omega⟩ ⟨r.val % 192, h⟩ k
      else (0 : EReal) := by
  refine (read_shots m ρ c b r k).trans ?_
  by_cases h : r.val % 192 < 180
  · rw [dif_pos ⟨by omega, h⟩, dif_pos h, feat_shots]
    exact encode_shot (V1 m ρ c main_v14) (V1 m ρ c main_v13) (xs m c) (ws m c) (shots m ρ c) (weights m ρ c) b
      ⟨r.val / 192, by omega⟩ ⟨r.val % 192, h⟩ k _ _ _ rfl rfl rfl
  · rw [dif_neg (fun h' => h h'.2), dif_neg h]
    exact fill

/-- What the third call finds of the queries: their descriptors. -/
theorem in_queries (b : Fin 4) (r : Fin 2700) (k : Fin 512) : V6 m ρ c main_v21 (ix3 b r k)
    = Features.query (xq m c) (ws m c) b ⟨r.val / 36, by omega⟩ ⟨r.val % 36, by omega⟩ k := by
  refine (read_queries m ρ c b r k).trans ?_
  rw [feat_queries]
  exact encode_query (V1 m ρ c main_v15) (V1 m ρ c main_v13) (xq m c) (ws m c) (queries m ρ c) (weights m ρ c) b
      ⟨r.val / 36, by omega⟩ ⟨r.val % 36, by omega⟩ k _ _ _ rfl (by show r.val / 6 % 6 = r.val % 36 / 6; omega)
      (by show r.val % 6 * 512 + k.val = r.val % 36 % 6 * 512 + k.val; omega)

end Cert.Proof.Host

end
-- ==== Proof.KernelScore.lean ====
/-
  The kernel's result read at an index, and its run: from the descriptors of the shots and of the queries.
-/
module

public import proofs.«01_k».proof.Proof.HostInputs

@[expose] public section

set_option maxRecDepth 16384

noncomputable section

open Idealize.ShloMosaic Idealize.ShloMosaic.TcCoe Idealize.SL Idealize.SL.Sem

namespace Cert.Proof.KernelScore

open Cert.KernelIdeal Cert.KernelIdeal.Gen Cert.Proof.Host

/-- The inner product of the kernel's normalised row `r` of the shots with the normalised position `p` of the query. -/
def inner (Q : Fin 36 → Fin 512 → EReal) (S : Fin 180 → Fin 512 → EReal) (p : Fin 36) (r : Fin 180) : EReal :=
  ∑ c : Fin 512, S r c * Ideal.rsqrt (max (Norm.sq (S r)) Norm.floor) * Norm.unit (Q p) c

/-- The score the kernel gives one query against one way. -/
def kscore (p0 p1 : EReal) (Q : Fin 36 → Fin 512 → EReal) (S : Fin 180 → Fin 512 → EReal) : EReal :=
  p0 * (∑ c : Fin 512, Norm.unit (fun c => (∑ p : Fin 36, Q p c) * ((1 / 36 : ℝ) : EReal)) c
      * Norm.unit (fun c => (∑ r : Fin 180, S r c) * ((1 / 180 : ℝ) : EReal)) c)
    + p1 * (Ideal.sqrt (∑ p : Fin 36, TopSum.topSum Norm.mark fun i : Fin 192 =>
        if h : i.val < 180 then inner Q S p ⟨i.val, h⟩ else Norm.mark) * ((1 / 375 : ℝ) : EReal))

/-- A sum over 192 rows whose last 12 are zero is the sum over the first 180. -/
theorem sum_pad (f : Fin 180 → EReal) : (∑ i : Fin 192, if h : i.val < 180 then f ⟨i.val, h⟩ else 0) = ∑ r, f r := by
  refine (Fin.sum_univ_add (a := 180) (b := 12) fun i : Fin (180 + 12) => if h : i.val < 180 then f ⟨i.val, h⟩ else 0).trans ?_
  rw [Finset.sum_eq_zero (s := (Finset.univ : Finset (Fin 12))), add_zero]
  · refine Finset.sum_congr rfl fun r _ => ?_
    rw [dif_pos (show (Fin.castAdd 12 r).val < 180 from r.isLt)]
    rfl
  · intro r _
    rw [dif_neg (by simp)]

/-- The body's score over padded rows is the score over the rows. -/
theorem score_eq (p0 p1 : EReal) (v1 : S2700x512.Idx → EReal) (v3 : S960x512.Idx → EReal)
    (Q : Fin 36 → Fin 512 → EReal) (S : Fin 180 → Fin 512 → EReal) (a : Fin 75) (w : Fin 5)
    (hQ : ∀ (p : Fin 36) (c : Fin 512), v1 (ix2 (⟨a.val * 36 + p.val, by omega⟩ : Fin 2700) c) = Q p c)
    (hS : ∀ (i : Fin 192) (c : Fin 512), v3 (ix2 (⟨w.val * 192 + i.val, by omega⟩ : Fin 960) c)
      = if h : i.val < 180 then S ⟨i.val, h⟩ c else 0) :
    Rounds.score (F := Ideal) p0 p1 v1 v3 (ix3 (0 : Fin 1) a w) = kscore p0 p1 Q S := by
  have hq : BlockValue.qmean v1 a = fun c => (∑ p : Fin 36, Q p c) * ((1 / 36 : ℝ) : EReal) := by
    funext c
    unfold BlockValue.qmean
    simp only [hQ]
  have hp : BlockValue.proto v3 w = fun c => (∑ r : Fin 180, S r c) * ((1 / 180 : ℝ) : EReal) := by
    funext c
    unfold BlockValue.proto
    simp only [hS]
    rw [sum_pad fun r => S r c]
  rw [BlockValue.score_apply, hq, hp]
  unfold kscore
  congr 4
  refine Finset.sum_congr rfl fun p _ => congrArg (TopSum.topSum Norm.mark) (funext fun i => ?_)
  by_cases h : i.val < 180
  · rw [if_neg (by omega), dif_pos h]
    unfold inner
    simp only [hS, hQ, dif_pos h]
  · rw [if_pos (by omega), dif_neg h]

variable (m : (ℓ : Loc nD τ sig) → Buf (Elt Ideal) ℓ) (ρ : Dev nD → PrngReg) (c : Dev nD)

/-- The kernel's result at an index. -/
theorem result_apply (b : Fin 4) (a : Fin 75) (w : Fin 5) :
    W7 m ρ c (Proc.devRef .tc main_v29) (ix3 b a w)
      = kscore (tp m c ix0 * rc m c (ix1 (0 : Fin 1))) (tp m c ix0 * rd m c (ix1 (0 : Fin 1)))
          (Features.query (xq m c) (ws m c) b a) (Features.shot (xs m c) (ws m c) b w) := by
  rw [show W7 m ρ c (Proc.devRef .tc main_v29) = Arrays.scores (V6 m ρ c main_v28) (V6 m ρ c main_v21) (V6 m ρ c main_v20) from
    (W7_arr m ρ c 3).trans (Arrays.result (V6 m ρ) c)]
  unfold Arrays.scores
  rw [in_rc, in_rd]
  refine score_eq _ _ _ _ _ _ a w ?_ ?_
  · intro p k
    refine (in_queries m ρ c b ⟨a.val * 36 + p.val, by omega⟩ k).trans ?_
    congr 1 <;> (apply Fin.ext; simp only; omega)
  · intro i k
    refine (in_shots m ρ c b ⟨w.val * 192 + i.val, by omega⟩ k).trans ?_
    have h1 : (w.val * 192 + i.val) % 192 = i.val := by omega
    have h2 : (w.val * 192 + i.val) / 192 = w.val := by omega
    simp only [h1, h2]

end Cert.Proof.KernelScore

end
-- ==== Proof.Reference.lean ====
/-
  What the reference computes, entry by entry, in terms of the patches' descriptors.
-/
module

public import proofs.«01_k».proof.Proof.Gen.ReferenceIdeal.Read
public import proofs.«01_k».proof.Proof.Features
public import proofs.«01_k».proof.Proof.Norm

@[expose] public section

set_option maxRecDepth 16384

noncomputable section

open Idealize.ShloMosaic Idealize.ShloMosaic.TcCoe Idealize.SL Idealize.SL.Sem

namespace Cert.Proof.Reference

open Cert.ReferenceIdeal Cert.ReferenceIdeal.Gen Cert.ReferenceIdeal.Read

/-- A vector over its length. -/
def normed (v : Fin 512 → EReal) (c : Fin 512) : EReal := Ideal.div (v c) (Ideal.sqrt (Norm.sq v))

/-- A query's mean descriptor. -/
def qmean (Q : Fin 36 → Fin 512 → EReal) (c : Fin 512) : EReal := Ideal.div (∑ p : Fin 36, Q p c) ((36 : ℝ) : EReal)

/-- A class's mean descriptor: the mean over the five shots of each shot's mean. -/
def smean (S : Fin 180 → Fin 512 → EReal) (c : Fin 512) : EReal :=
  Ideal.div (∑ s : Fin 5, Ideal.div (∑ p : Fin 36, S ⟨s.val * 36 + p.val, by omega⟩ c) ((36 : ℝ) : EReal)) ((5 : ℝ) : EReal)

/-- The similarity of the query's patch `p` and the class's descriptor `r`. -/
def sim (Q : Fin 36 → Fin 512 → EReal) (S : Fin 180 → Fin 512 → EReal) (p : Fin 36) (r : Fin 180) : EReal :=
  ∑ c : Fin 512, normed (S r) c * normed (Q p) c

/-- The order by which the entries of a column are sorted: larger first. -/
abbrev larger (g : Fin 180 → EReal) (k k' : Fin 180) : Bool := Ideal.cmp .ogt (g k) (g k') == 1#1

/-- The `t`-th largest entry of a column. -/
def best (g : Fin 180 → EReal) (t : Fin 5) : EReal := g (sortedFrom (larger g) ⟨t.val, by omega⟩)

/-- The score: a cosine of mean descriptors and the length of the five best similarities of every patch, weighted. -/
def rscore (t rc rd : EReal) (Q : Fin 36 → Fin 512 → EReal) (S : Fin 180 → Fin 512 → EReal) : EReal :=
  t * (rc * (∑ c : Fin 512, normed (qmean Q) c * normed (smean S) c)
    + rd * Ideal.div (Ideal.sqrt (∑ p : Fin 36, ∑ k : Fin 5, best (sim Q S p) k * best (sim Q S p) k)) ((375 : ℝ) : EReal))

/-- The index with the three given coordinates, over a shape given by its list of extents. -/
def at3 {n0 n1 n2 : ℕ} (a : Fin n0) (b : Fin n1) (c : Fin n2) : (Shape.ofList [n0, n1, n2]).Idx :=
  fun i => match i with | ⟨0, _⟩ => a | ⟨1, _⟩ => b | ⟨2, _⟩ => c

/-- A sum over the indices of such a shape, coordinate by coordinate. -/
theorem sum_three {n0 n1 n2 : ℕ} (f : (Shape.ofList [n0, n1, n2]).Idx → EReal) :
    ∑ i, f i = ∑ a : Fin n0, ∑ b : Fin n1, ∑ c : Fin n2, f (at3 a b c) := by
  have e : ∀ i : (Shape.ofList [n0, n1, n2]).Idx, at3 (i ⟨0, by show 0 < 3; omega⟩ : Fin n0) (i ⟨1, by show 1 < 3; omega⟩ : Fin n1) (i ⟨2, by show 2 < 3; omega⟩ : Fin n2) = i := by
    intro i
    funext k
    match k with
    | ⟨0, _⟩ => rfl
    | ⟨1, _⟩ => rfl
    | ⟨2, _⟩ => rfl
  rw [← Fintype.sum_equiv ⟨fun p : Fin n0 × Fin n1 × Fin n2 => at3 p.1 p.2.1 p.2.2,
    fun i => ((i ⟨0, by show 0 < 3; omega⟩ : Fin n0), (i ⟨1, by show 1 < 3; omega⟩ : Fin n1), (i ⟨2, by show 2 < 3; omega⟩ : Fin n2)), fun _ => rfl, e⟩
    (fun p => f (at3 p.1 p.2.1 p.2.2)) f fun _ => rfl]
  simp only [Fintype.sum_prod_type]

/-- The shots' patch product, entry by entry: the sum over the three colours and the 16 × 16 pixels of the patch. -/
theorem dot_shots (x : S100x3x6x16x6x16.Idx → EReal) (w : S512x3x16x16.Idx → EReal) (n : Fin 100) (u v : Fin 6) (k : Fin 512) :
    Ideal.matmul dot_S100x3x6x16x6x16_S512x3x16x16_S100x6x6x512_135_123_024_0_n_n x w (fun _ => 0) (ix4 n u v k)
      = ∑ i : Fin 3, ∑ p : Fin 16, ∑ q : Fin 16, x (ix6 n i u p v q) * w (ix4 k i p q) := by
  unfold Ideal.matmul
  rw [zero_add]
  refine (sum_three (n0 := 3) (n1 := 16) (n2 := 16) fun k' =>
    x (dot_S100x3x6x16x6x16_S512x3x16x16_S100x6x6x512_135_123_024_0_n_n.lhsIdx (ix4 n u v k) k')
      * w (dot_S100x3x6x16x6x16_S512x3x16x16_S100x6x6x512_135_123_024_0_n_n.rhsIdx (ix4 n u v k) k')).trans ?_
  refine Finset.sum_congr rfl fun i _ => Finset.sum_congr rfl fun p _ => Finset.sum_congr rfl fun q _ => ?_
  congr 1
  · congr 1
    funext a
    fin_cases a <;> rfl
  · congr 1
    funext a
    fin_cases a <;> rfl

/-- The queries' patch product, entry by entry: the sum over the three colours and the 16 × 16 pixels of the patch. -/
theorem dot_queries (x : S300x3x6x16x6x16.Idx → EReal) (w : S512x3x16x16.Idx → EReal) (n : Fin 300) (u v : Fin 6) (k : Fin 512) :
    Ideal.matmul dot_S300x3x6x16x6x16_S512x3x16x16_S300x6x6x512_135_123_024_0_n_n x w (fun _ => 0) (ix4 n u v k)
      = ∑ i : Fin 3, ∑ p : Fin 16, ∑ q : Fin 16, x (ix6 n i u p v q) * w (ix4 k i p q) := by
  unfold Ideal.matmul
  rw [zero_add]
  refine (sum_three (n0 := 3) (n1 := 16) (n2 := 16) fun k' =>
    x (dot_S300x3x6x16x6x16_S512x3x16x16_S300x6x6x512_135_123_024_0_n_n.lhsIdx (ix4 n u v k) k')
      * w (dot_S300x3x6x16x6x16_S512x3x16x16_S300x6x6x512_135_123_024_0_n_n.rhsIdx (ix4 n u v k) k')).trans ?_
  refine Finset.sum_congr rfl fun i _ => Finset.sum_congr rfl fun p _ => Finset.sum_congr rfl fun q _ => ?_
  congr 1
  · congr 1
    funext a
    fin_cases a <;> rfl
  · congr 1
    funext a
    fin_cases a <;> rfl

/-- A pixel of a shot, as the patches' layout names it. -/
theorem pixel_shots (x0 : S4x5x5x3x96x96.Idx → EReal) (n : Fin 100) (i : Fin 3) (y : Fin 6) (p : Fin 16) (x : Fin 6) (q : Fin 16) :
    val_main_v1 (F := Ideal) x0 (ix6 n i y p x q)
      = x0 (ix6 (⟨n.val / 25, by omega⟩ : Fin 4) (⟨n.val / 5 % 5, by omega⟩ : Fin 5) (⟨n.val % 5, by omega⟩ : Fin 5) i
          (⟨y.val * 16 + p.val, by omega⟩ : Fin 96) (⟨x.val * 16 + q.val, by omega⟩ : Fin 96)) := by
  have A : ∀ z : S100x3x96x96.Idx → EReal,
      shapeCast S100x3x6x16x6x16 z shapeCasts_S100x3x96x96_S100x3x6x16x6x16 (ix6 n i y p x q)
        = z (ix4 n i (⟨y.val * 16 + p.val, by omega⟩ : Fin 96) (⟨x.val * 16 + q.val, by omega⟩ : Fin 96)) := by
    intro z
    pointwise
  unfold val_main_v1
  rw [A]
  unfold val_main_v0
  pointwise

/-- A pixel of a query, as the patches' layout names it. -/
theorem pixel_queries (x1 : S4x75x3x96x96.Idx → EReal) (n : Fin 300) (i : Fin 3) (y : Fin 6) (p : Fin 16) (x : Fin 6) (q : Fin 16) :
    val_main_v7 (F := Ideal) x1 (ix6 n i y p x q)
      = x1 (ix5 (⟨n.val / 75, by omega⟩ : Fin 4) (⟨n.val % 75, by omega⟩ : Fin 75) i
          (⟨y.val * 16 + p.val, by omega⟩ : Fin 96) (⟨x.val * 16 + q.val, by omega⟩ : Fin 96)) := by
  have A : ∀ z : S300x3x96x96.Idx → EReal,
      shapeCast S300x3x6x16x6x16 z shapeCasts_S300x3x96x96_S300x3x6x16x6x16 (ix6 n i y p x q)
        = z (ix4 n i (⟨y.val * 16 + p.val, by omega⟩ : Fin 96) (⟨x.val * 16 + q.val, by omega⟩ : Fin 96)) := by
    intro z
    pointwise
  unfold val_main_v7
  rw [A]
  unfold val_main_v6
  pointwise

/-- A row of the shots' features: the descriptor of one patch of one image. -/
theorem feat_shots (x0 : S4x5x5x3x96x96.Idx → EReal) (x2 : S512x3x16x16.Idx → EReal) (n : Fin 100) (s : Fin 36) (k : Fin 512) :
    val_main_v5 (F := Ideal) x0 x2 (ix3 n s k)
      = Features.patch (fun i u v => x0 (ix6 (⟨n.val / 25, by omega⟩ : Fin 4) (⟨n.val / 5 % 5, by omega⟩ : Fin 5) (⟨n.val % 5, by omega⟩ : Fin 5) i u v))
          x2 ⟨s.val / 6, by omega⟩ ⟨s.val % 6, by omega⟩ k := by
  unfold val_main_v5 val_main_v4 val_main_v2 val_main_v3 val_main_cst
  pointwise
  rw [dot_shots]
  simp only [pixel_shots]
  unfold Features.patch
  rfl

/-- A row of the queries' features: the descriptor of one patch of one image. -/
theorem feat_queries (x1 : S4x75x3x96x96.Idx → EReal) (x2 : S512x3x16x16.Idx → EReal) (n : Fin 300) (s : Fin 36) (k : Fin 512) :
    val_main_v11 (F := Ideal) x1 x2 (ix3 n s k)
      = Features.patch (fun i u v => x1 (ix5 (⟨n.val / 75, by omega⟩ : Fin 4) (⟨n.val % 75, by omega⟩ : Fin 75) i u v))
          x2 ⟨s.val / 6, by omega⟩ ⟨s.val % 6, by omega⟩ k := by
  unfold val_main_v11 val_main_v10 val_main_v8 val_main_v9 val_main_cst_0
  pointwise
  rw [dot_queries]
  simp only [pixel_queries]
  unfold Features.patch
  rfl

/-- The sum over two last axes of five, as a double sum. -/
theorem sum_two (x : S4x75x5x36x5.Idx → EReal) (h : S4x75x5x36x5.ReducesTo [4, 3] S4x75x5) (b : Fin 4) (a : Fin 75) (w : Fin 5) :
    Ideal.hostReduceAdd h x 0 (ix3 b a w) = ∑ p : Fin 36, ∑ t : Fin 5, x (ix5 b a w p t) := by
  unfold Ideal.hostReduceAdd
  rw [zero_add, ← Finset.sum_product']
  symm
  refine Finset.sum_bij (fun z _ => ix5 b a w z.1 z.2) ?_ ?_ ?_ ?_
  · intro z _
    rw [Finset.mem_filter]
    refine ⟨Finset.mem_univ _, ?_⟩
    funext i
    fin_cases i <;> rfl
  · intro z _ z' _ e
    exact Prod.ext (congrFun e 3) (congrFun e 4)
  · intro i hi
    rw [Finset.mem_filter] at hi
    refine ⟨(i 3, i 4), Finset.mem_product.mpr ⟨Finset.mem_univ _, Finset.mem_univ _⟩, ?_⟩
    have e := hi.2
    funext k
    fin_cases k
    · exact (congrFun e 0).symm
    · exact (congrFun e 1).symm
    · exact (congrFun e 2).symm
    · rfl
    · rfl
  · intro _ _
    rfl

/-- The sorted column's `t`-th entry. -/
theorem value_apply (x : S4x75x5x36x180.Idx → EReal) (h : S4x75x5x36x180.Slices (fun _ => 0) S4x75x5x36x5)
    (b : Fin 4) (a : Fin 75) (w : Fin 5) (p : Fin 36) (t : Fin 5) :
    (Host.topK S4x75x5x36x5 4 (FloatOps.cmpfTotal (F := Ideal) (φ := .f32) .gt) x h).1 (ix5 b a w p t)
      = best (fun r => x (ix5 b a w p r)) t := by
  have e : ∀ k : Fin 180, (ix5 b a w p (⟨t.val, by omega⟩ : Fin 180) : S4x75x5x36x180.Idx).along 4 k = ix5 b a w p k := by
    intro k
    funext i
    fin_cases i <;> rfl
  unfold Host.topK
  unfold Host.sort2
  pointwise
  unfold best
  refine congrArg x ((e _).trans ?_)
  have g : (fun k k' : Fin 180 => FloatOps.cmpfTotal (F := Ideal) (φ := .f32) .gt
        (x ((ix5 b a w p (⟨t.val, by omega⟩ : Fin 180) : S4x75x5x36x180.Idx).along 4 k))
        (x ((ix5 b a w p (⟨t.val, by omega⟩ : Fin 180) : S4x75x5x36x180.Idx).along 4 k')) == 1#1)
      = larger fun r => x (ix5 b a w p r) := by
    funext k k'
    rw [e, e]
    rfl
  exact congrArg (fun f => (ix5 b a w p (sortedFrom f (⟨t.val, by omega⟩ : Fin 180)) : S4x75x5x36x180.Idx)) g

/-- A row of the shots' features by its class, shot and patch. -/
theorem row_shots (x0 : S4x5x5x3x96x96.Idx → EReal) (x2 : S512x3x16x16.Idx → EReal) (b : Fin 4) (w s : Fin 5) (p : Fin 36) (c : Fin 512) :
    val_main_v5 (F := Ideal) x0 x2 (ix3 (⟨b.val * 25 + w.val * 5 + s.val, by omega⟩ : Fin 100) p c)
      = Features.shot x0 x2 b w ⟨s.val * 36 + p.val, by omega⟩ c := by
  rw [feat_shots]
  have e1 : (⟨(b.val * 25 + w.val * 5 + s.val) / 25, by omega⟩ : Fin 4) = b := Fin.ext (by show (b.val * 25 + w.val * 5 + s.val) / 25 = b.val; omega)
  have e2 : (⟨(b.val * 25 + w.val * 5 + s.val) / 5 % 5, by omega⟩ : Fin 5) = w := Fin.ext (by show (b.val * 25 + w.val * 5 + s.val) / 5 % 5 = w.val; omega)
  have e3 : (⟨(b.val * 25 + w.val * 5 + s.val) % 5, by omega⟩ : Fin 5) = s := Fin.ext (by show (b.val * 25 + w.val * 5 + s.val) % 5 = s.val; omega)
  have e4 : (⟨(s.val * 36 + p.val) / 36, by omega⟩ : Fin 5) = s := Fin.ext (by show (s.val * 36 + p.val) / 36 = s.val; omega)
  have e5 : (⟨(s.val * 36 + p.val) / 6 % 6, by omega⟩ : Fin 6) = ⟨p.val / 6, by omega⟩ := Fin.ext (by show (s.val * 36 + p.val) / 6 % 6 = p.val / 6; omega)
  have e6 : (⟨(s.val * 36 + p.val) % 6, by omega⟩ : Fin 6) = ⟨p.val % 6, by omega⟩ := Fin.ext (by show (s.val * 36 + p.val) % 6 = p.val % 6; omega)
  unfold Features.shot
  dsimp only
  rw [e1, e2, e3, e4, e5, e6]

/-- The features of one class's descriptor. -/
theorem class_shots (x0 : S4x5x5x3x96x96.Idx → EReal) (x2 : S512x3x16x16.Idx → EReal) (b : Fin 4) (w s : Fin 5) (p : Fin 36) (c : Fin 512) :
    val_main_v12 (F := Ideal) x0 x2 (ix5 b w s p c) = Features.shot x0 x2 b w ⟨s.val * 36 + p.val, by omega⟩ c := by
  have A : ∀ z : S100x36x512.Idx → EReal,
      shapeCast S4x5x5x36x512 z shapeCasts_S100x36x512_S4x5x5x36x512 (ix5 b w s p c)
        = z (ix3 (⟨b.val * 25 + w.val * 5 + s.val, by omega⟩ : Fin 100) p c) := by
    intro z
    pointwise
  unfold val_main_v12
  rw [A, row_shots]

/-- The same with the class's 180 descriptors in one row. -/
theorem class_rows (x0 : S4x5x5x3x96x96.Idx → EReal) (x2 : S512x3x16x16.Idx → EReal) (b : Fin 4) (w : Fin 5) (r : Fin 180) (c : Fin 512) :
    val_main_v36 (F := Ideal) x0 x2 (ix4 b w r c) = Features.shot x0 x2 b w r c := by
  have A : ∀ z : S4x5x5x36x512.Idx → EReal,
      shapeCast S4x5x180x512 z shapeCasts_S4x5x5x36x512_S4x5x180x512 (ix4 b w r c)
        = z (ix5 b w (⟨r.val / 36, by omega⟩ : Fin 5) (⟨r.val % 36, by omega⟩ : Fin 36) c) := by
    intro z
    pointwise
  unfold val_main_v36
  rw [A, class_shots]
  exact congrArg (fun r => Features.shot x0 x2 b w r c) (Fin.ext (by show r.val / 36 * 36 + r.val % 36 = r.val; omega))

/-- A row of the queries' features by its query and patch. -/
theorem row_queries (x1 : S4x75x3x96x96.Idx → EReal) (x2 : S512x3x16x16.Idx → EReal) (b : Fin 4) (a : Fin 75) (p : Fin 36) (c : Fin 512) :
    val_main_v11 (F := Ideal) x1 x2 (ix3 (⟨b.val * 75 + a.val, by omega⟩ : Fin 300) p c) = Features.query x1 x2 b a p c := by
  rw [feat_queries]
  have e1 : (⟨(b.val * 75 + a.val) / 75, by omega⟩ : Fin 4) = b := Fin.ext (by show (b.val * 75 + a.val) / 75 = b.val; omega)
  have e2 : (⟨(b.val * 75 + a.val) % 75, by omega⟩ : Fin 75) = a := Fin.ext (by show (b.val * 75 + a.val) % 75 = a.val; omega)
  unfold Features.query
  dsimp only
  rw [e1, e2]

/-- The features of one query's patch. -/
theorem patch_queries (x1 : S4x75x3x96x96.Idx → EReal) (x2 : S512x3x16x16.Idx → EReal) (b : Fin 4) (a : Fin 75) (p : Fin 36) (c : Fin 512) :
    val_main_v13 (F := Ideal) x1 x2 (ix4 b a p c) = Features.query x1 x2 b a p c := by
  have A : ∀ z : S300x36x512.Idx → EReal,
      shapeCast S4x75x36x512 z shapeCasts_S300x36x512_S4x75x36x512 (ix4 b a p c)
        = z (ix3 (⟨b.val * 75 + a.val, by omega⟩ : Fin 300) p c) := by
    intro z
    pointwise
  unfold val_main_v13
  rw [A, row_queries]

/-- The constant 36. -/
theorem const_36 : Ideal.ofBits .f32 0x42100000#32 = ((36 : ℝ) : EReal) := by
  simp [Ideal.ofBits, Ideal.ieee, -EReal.coe_mul]
  norm_num

/-- The constant 5. -/
theorem const_5 : Ideal.ofBits .f32 0x40A00000#32 = ((5 : ℝ) : EReal) := by
  simp [Ideal.ofBits, Ideal.ieee, -EReal.coe_mul]
  norm_num

/-- The constant 375. -/
theorem const_375 : Ideal.ofBits .f32 0x43BB8000#32 = ((375 : ℝ) : EReal) := by
  simp [Ideal.ofBits, Ideal.ieee, -EReal.coe_mul]
  norm_num

/-- The similarities. -/
theorem sim_apply (x0 : S4x5x5x3x96x96.Idx → EReal) (x1 : S4x75x3x96x96.Idx → EReal) (x2 : S512x3x16x16.Idx → EReal)
    (b : Fin 4) (a : Fin 75) (w : Fin 5) (p : Fin 36) (r : Fin 180) :
    val_main_v50 (F := Ideal) x0 x1 x2 (ix5 b a w p r) = sim (Features.query x1 x2 b a) (Features.shot x0 x2 b w) p r := by
  unfold val_main_v50
  pointwise
  rw [val_main_v49_apply]
  pointwise
  have e1 : ∀ k : Fin 512, lidx_main_v49 (ix5 b w r a p) k = ix4 b w r k := by
    intro k
    funext i
    fin_cases i <;> rfl
  have e2 : ∀ k : Fin 512, ridx_main_v49 (ix5 b w r a p) k = ix4 b a p k := by
    intro k
    funext i
    fin_cases i <;> rfl
  simp only [e1, e2]
  unfold val_main_v48 val_main_v47 val_main_v46 val_main_v45 val_main_v44 val_main_v43 val_main_cst_10
  unfold val_main_v42 val_main_v41 val_main_v40 val_main_v39 val_main_v38 val_main_v37 val_main_cst_9
  pointwise
  simp only [class_rows, patch_queries]
  rfl

/-- The cosine. -/
theorem cos_apply (x0 : S4x5x5x3x96x96.Idx → EReal) (x1 : S4x75x3x96x96.Idx → EReal) (x2 : S512x3x16x16.Idx → EReal)
    (b : Fin 4) (a : Fin 75) (w : Fin 5) :
    val_main_v35 (F := Ideal) x0 x1 x2 (ix3 b a w)
      = ∑ c : Fin 512, normed (qmean (Features.query x1 x2 b a)) c * normed (smean (Features.shot x0 x2 b w)) c := by
  rw [val_main_v35_apply]
  pointwise
  have e1 : ∀ k : Fin 512, lidx_main_v35 (ix3 b a w) k = ix3 b a k := by
    intro k
    funext i
    fin_cases i <;> rfl
  have e2 : ∀ k : Fin 512, ridx_main_v35 (ix3 b a w) k = ix3 b w k := by
    intro k
    funext i
    fin_cases i <;> rfl
  simp only [e1, e2]
  unfold val_main_v28 val_main_v27 val_main_v26 val_main_v25 val_main_v24 val_main_v23 val_main_cst_7 val_main_v22 val_main_v21 val_main_cst_6 val_main_v20 val_main_cst_5
  unfold val_main_v34 val_main_v33 val_main_v32 val_main_v31 val_main_v30 val_main_v29 val_main_cst_8 val_main_v19 val_main_v18 val_main_cst_4 val_main_v17 val_main_cst_3 val_main_v16 val_main_v15 val_main_cst_2 val_main_v14 val_main_cst_1
  pointwise
  simp only [class_shots, patch_queries, const_36, const_5]
  rfl

/-- The length of the five best similarities of every patch. -/
theorem dn4_apply (x0 : S4x5x5x3x96x96.Idx → EReal) (x1 : S4x75x3x96x96.Idx → EReal) (x2 : S512x3x16x16.Idx → EReal)
    (b : Fin 4) (a : Fin 75) (w : Fin 5) :
    val_main_v55 (F := Ideal) x0 x1 x2 (ix3 b a w)
      = Ideal.div (Ideal.sqrt (∑ p : Fin 36, ∑ k : Fin 5,
          best (sim (Features.query x1 x2 b a) (Features.shot x0 x2 b w) p) k
            * best (sim (Features.query x1 x2 b a) (Features.shot x0 x2 b w) p) k)) ((375 : ℝ) : EReal) := by
  have h : val_main_v52 (F := Ideal) x0 x1 x2 (ix3 b a w)
      = ∑ p : Fin 36, ∑ k : Fin 5, val_main_values (F := Ideal) x0 x1 x2 (ix5 b a w p k) * val_main_values (F := Ideal) x0 x1 x2 (ix5 b a w p k) := by
    unfold val_main_v52 val_main_v51 val_main_cst_11
    generalize val_main_values (F := Ideal) x0 x1 x2 = z
    pointwise
    rw [sum_two]
    rfl
  have g : ∀ (p : Fin 36) (k : Fin 5), val_main_values (F := Ideal) x0 x1 x2 (ix5 b a w p k)
      = best (sim (Features.query x1 x2 b a) (Features.shot x0 x2 b w) p) k := by
    intro p k
    unfold val_main_values
    rw [value_apply]
    exact congrArg (fun f => best f k) (funext fun r => sim_apply x0 x1 x2 b a w p r)
  unfold val_main_v55 val_main_v54 val_main_cst_12 val_main_v53
  pointwise
  rw [h, const_375]
  simp only [g]

/-- The reference's result at an index. -/
theorem result_apply (x0 : S4x5x5x3x96x96.Idx → EReal) (x1 : S4x75x3x96x96.Idx → EReal) (x2 : S512x3x16x16.Idx → EReal)
    (x3 x4 : S1.Idx → EReal) (x5 : S_.Idx → EReal) (b : Fin 4) (a : Fin 75) (w : Fin 5) :
    val_main_v64 (F := Ideal) x0 x1 x2 x3 x4 x5 (ix3 b a w)
      = rscore (x5 ix0) (x3 (ix1 0)) (x4 (ix1 0)) (Features.query x1 x2 b a) (Features.shot x0 x2 b w) := by
  unfold val_main_v64 val_main_v63 val_main_v62 val_main_v61 val_main_v60 val_main_v59 val_main_v58 val_main_v57 val_main_v56
  pointwise
  rw [dn4_apply, cos_apply]
  rfl

end Cert.Proof.Reference

end
-- ==== Proof.Score.lean ====
/-
  The kernel's score is the reference's score: the mathematics, away from both programs.
-/
module

public import proofs.«01_k».proof.Proof.KernelScore
public import proofs.«01_k».proof.Proof.Reference
public import Idealize.ShloMosaic.Lib.SortFacts

@[expose] public section

set_option maxRecDepth 16384

noncomputable section

open Idealize.ShloMosaic Idealize.ShloMosaic.TcCoe Idealize.SL Idealize.SL.Sem

namespace Cert.Proof.Score

open Cert.Proof.KernelScore Cert.Proof.Reference

/-- A vector of positive length over its length, both ways of writing it. -/
theorem normed_eq {v : Fin 512 → EReal} (h : 0 < Norm.sq v) : normed v = Norm.unit v :=
  funext fun c => Norm.div_sqrt h (v c)

/-- A real scale of a sum of rows of nonnegative entries has positive length once one row has. -/
theorem mean_pos {n : ℕ} {A : Fin n → Fin 512 → EReal} (hA : ∀ p c, 0 ≤ A p c) (p : Fin n) (h : 0 < Norm.sq (A p))
    {k : ℝ} (hk : 0 < k) : 0 < Norm.sq fun c => (∑ p : Fin n, A p c) * (k : EReal) := by
  obtain ⟨c, hc⟩ := Norm.exists_pos (hA p) h
  have hk' : (0 : EReal) < (k : EReal) := by exact_mod_cast hk
  refine Norm.sq_pos (fun c => mul_nonneg (Finset.sum_nonneg fun p _ => hA p c) hk'.le) (c := c) ?_
  refine EReal.mul_pos (hc.trans_le ?_) hk'
  exact Finset.single_le_sum (f := fun p => A p c) (fun p _ => hA p c) (Finset.mem_univ p)

/-- The query's mean, as a product. -/
theorem qmean_eq (Q : Fin 36 → Fin 512 → EReal) :
    qmean Q = fun c => (∑ p : Fin 36, Q p c) * ((1 / 36 : ℝ) : EReal) :=
  funext fun c => Ideal.div_coe (by norm_num) _

/-- The class's mean of means is one mean over its 180 descriptors. -/
theorem smean_eq {S : Fin 180 → Fin 512 → EReal} (hS : ∀ r c, 0 ≤ S r c) :
    smean S = fun c => (∑ r : Fin 180, S r c) * ((1 / 180 : ℝ) : EReal) := by
  funext c
  unfold smean
  rw [Ideal.div_coe (by norm_num)]
  simp only [Ideal.div_coe (show (36 : ℝ) ≠ 0 by norm_num)]
  rw [Norm.mean_mean (fun s p => hS _ c), Features.sum_split (m := 5) (n := 36) fun r => S r c]
  norm_num

/-- One similarity, both ways of writing it. -/
theorem inner_eq {Q : Fin 36 → Fin 512 → EReal} {S : Fin 180 → Fin 512 → EReal} {p : Fin 36} {r : Fin 180}
    (hq : 0 < Norm.sq (Q p)) (hs : Norm.floor ≤ Norm.sq (S r)) : KernelScore.inner Q S p r = sim Q S p r := by
  unfold KernelScore.inner sim
  rw [max_eq_left hs, normed_eq hq, normed_eq (Norm.floor_pos.trans_le hs)]
  rfl

/-- The five largest entries of a real column: what five rounds over the marked column add up is the sum of the
squares of the first five of the sorted column. -/
theorem top_five {g : Fin 180 → EReal} (hg : ∀ r, ∃ x : ℝ, 0 ≤ x ∧ g r = x) :
    TopSum.topSum Norm.mark (fun i : Fin 192 => if h : i.val < 180 then g ⟨i.val, h⟩ else Norm.mark)
      = ∑ k : Fin 5, best g k * best g k := by
  choose f hf hgf using hg
  obtain ⟨σ, hσ⟩ : ∃ σ, σ = sortedFrom (larger g) := ⟨_, rfl⟩
  have hσi : Function.Injective σ := hσ ▸ sortedFrom_injective _
  have hσs : Function.Surjective σ := hσ ▸ sortedFrom_surjective _
  have hl : ∀ a b, larger g a b = decide (g b < g a) := by
    intro a b
    unfold larger Ideal.cmp
    by_cases h : g b < g a
    · simp [h]
    · simp [h]
  have hanti : ∀ a b : Fin 180, a < b → f (σ b) ≤ f (σ a) := by
    intro a b hab
    have := sortedFrom_noInversion (larger g) (larger g)
      (fun a b h => by rw [hl] at h ⊢; simpa using (of_decide_eq_true h).le)
      (fun _ _ h => h)
      (fun a b c h h' => by rw [hl] at h h' ⊢; simp only [decide_eq_false_iff_not, not_lt] at h h' ⊢; exact h.trans h') a b hab
    rw [hl, ← hσ] at this
    simp only [decide_eq_false_iff_not, not_lt, hgf] at this
    exact_mod_cast this
  let e : ℕ → Fin 192 := fun r => if h : r < 180 then ⟨(σ ⟨r, h⟩).val, by omega⟩ else ⟨191, by omega⟩
  let y : ℕ → ℝ := fun r => if h : r < 180 then f (σ ⟨r, h⟩) else 0
  have he : ∀ r (h : r < 180), e r = ⟨(σ ⟨r, h⟩).val, by omega⟩ := fun r h => dif_pos h
  have hy : ∀ r (h : r < 180), y r = f (σ ⟨r, h⟩) := fun r h => dif_pos h
  have key : TopSum.Arranged Norm.mark 180 e y 0 (fun i : Fin 192 => if h : i.val < 180 then g ⟨i.val, h⟩ else Norm.mark) :=
    { inj := fun a ha b hb h => by
        rw [he a ha, he b hb] at h
        have h' : σ ⟨a, ha⟩ = σ ⟨b, hb⟩ := Fin.ext (congrArg (fun i : Fin 192 => i.val) h)
        exact congrArg Fin.val (hσi h')
      anti := fun a b hab hb => by
        rw [hy a (by omega), hy b hb]
        rcases hab.lt_or_eq with h | h
        · exact hanti _ _ h
        · subst h
          exact le_refl _
      nonneg := fun a ha => by
        rw [hy a ha]
        exact hf _
      neg := Norm.mark_neg
      le := by omega
      at_e := fun r hr => by
        rw [he r hr, if_neg (by omega), hy r hr, ← hgf, dif_pos (show (σ ⟨r, hr⟩).val < 180 from (σ ⟨r, hr⟩).isLt)]
      off := fun i hi => by
        by_cases h : i.val < 180
        · obtain ⟨r, hr⟩ := hσs ⟨i.val, h⟩
          refine absurd ?_ (hi r.val r.isLt)
          rw [he r.val r.isLt]
          exact Fin.ext (show (σ ⟨r.val, r.isLt⟩).val = i.val from congrArg Fin.val hr)
        · exact dif_neg h }
  rw [TopSum.topSum_eq key (by omega)]
  have hb : ∀ k : Fin 5, best g k = (y k.val : EReal) := by
    intro k
    rw [hy k.val (by omega), ← hgf, hσ]
    rfl
  simp only [hb]
  rw [Finset.sum_range, Norm.coe_sum]
  simp only [EReal.coe_mul]

/-- The root of a sum of nonnegative reals is a real. -/
theorem sqrt_real {z : EReal} (h : ∃ x : ℝ, 0 ≤ x ∧ z = x) : ∃ y : ℝ, Ideal.sqrt z = y := by
  obtain ⟨x, hx, rfl⟩ := h
  exact ⟨Real.sqrt x, by rw [Ideal.sqrt_coe, if_neg (by linarith)]⟩

/-- **The kernel's score is the reference's**: for descriptors of nonnegative entries, none of a query's of length
zero, none of a class's shorter than the floor, and real weights. -/
theorem kscore_eq (t rc rd : ℝ) {Q : Fin 36 → Fin 512 → EReal} {S : Fin 180 → Fin 512 → EReal}
    (hQ : ∀ p c, 0 ≤ Q p c) (hS : ∀ r c, 0 ≤ S r c) (hq : ∀ p, 0 < Norm.sq (Q p)) (hs : ∀ r, Norm.floor ≤ Norm.sq (S r)) :
    kscore ((t : EReal) * (rc : EReal)) ((t : EReal) * (rd : EReal)) Q S = rscore t rc rd Q S := by
  have hs' : ∀ r, 0 < Norm.sq (S r) := fun r => Norm.floor_pos.trans_le (hs r)
  have nq : normed (qmean Q) = Norm.unit (fun c => (∑ p : Fin 36, Q p c) * ((1 / 36 : ℝ) : EReal)) := by
    rw [qmean_eq]
    exact normed_eq (mean_pos hQ 0 (hq 0) (by norm_num))
  have ns : normed (smean S) = Norm.unit (fun c => (∑ r : Fin 180, S r c) * ((1 / 180 : ℝ) : EReal)) := by
    rw [smean_eq hS]
    exact normed_eq (mean_pos hS 0 (hs' 0) (by norm_num))
  have hsim : ∀ p r, ∃ x : ℝ, 0 ≤ x ∧ sim Q S p r = x := by
    intro p r
    unfold sim
    rw [normed_eq (hq p), normed_eq (hs' r)]
    exact Norm.dot_real (Norm.unit_real (hS r)) (Norm.unit_real (hQ p))
  have htop : ∀ p, TopSum.topSum Norm.mark (fun i : Fin 192 => if h : i.val < 180 then KernelScore.inner Q S p ⟨i.val, h⟩ else Norm.mark)
      = ∑ k : Fin 5, best (sim Q S p) k * best (sim Q S p) k := by
    intro p
    rw [show KernelScore.inner Q S p = sim Q S p from funext fun r => inner_eq (hq p) (hs r)]
    exact top_five (hsim p)
  have hcos : ∃ x : ℝ, 0 ≤ x ∧ ∑ c : Fin 512, normed (qmean Q) c * normed (smean S) c = x := by
    rw [nq, ns]
    refine Norm.dot_real (Norm.unit_real fun c => ?_) (Norm.unit_real fun c => ?_)
    · exact mul_nonneg (Finset.sum_nonneg (f := fun p => Q p c) fun p _ => hQ p c) (EReal.coe_nonneg.mpr (by norm_num))
    · exact mul_nonneg (Finset.sum_nonneg (f := fun r => S r c) fun r _ => hS r c) (EReal.coe_nonneg.mpr (by norm_num))
  have hall : ∃ x : ℝ, 0 ≤ x ∧ ∑ p : Fin 36, ∑ k : Fin 5, best (sim Q S p) k * best (sim Q S p) k = x := by
    choose f hf hsf using hsim
    refine ⟨∑ p : Fin 36, ∑ k : Fin 5, f p (sortedFrom (larger (sim Q S p)) ⟨k.val, by omega⟩) * f p (sortedFrom (larger (sim Q S p)) ⟨k.val, by omega⟩),
      Finset.sum_nonneg fun p _ => Finset.sum_nonneg fun k _ => mul_nonneg (hf _ _) (hf _ _), ?_⟩
    simp only [Norm.coe_sum, EReal.coe_mul]
    refine Finset.sum_congr rfl fun p _ => ?_
    refine Finset.sum_congr rfl fun k _ => ?_
    unfold best
    rw [hsf]
  obtain ⟨d, hd⟩ := sqrt_real hall
  obtain ⟨cs, -, hcs⟩ := hcos
  unfold kscore rscore
  rw [← nq, ← ns, hcs]
  simp only [htop]
  rw [hd, Ideal.div_coe (by norm_num)]
  norm_cast
  ring

end Cert.Proof.Score

end
-- ==== Proof.Precondition.lean ====
/-
  What the precondition says of the descriptors and of the three weights, in plain inequalities.
-/
module

public import proofs.«01_k».proof.Pre_nonzero_descriptors
public import proofs.«01_k».proof.Proof.Reference

@[expose] public section

set_option maxRecDepth 16384

noncomputable section

open Idealize.ShloMosaic Idealize.ShloMosaic.TcCoe Idealize.SL Idealize.SL.Sem

namespace Cert.Proof.Precondition

open Cert.Pre_nonzero_descriptors

/-- The shape relations the precondition's operations take. -/
theorem facts : Cert.Pre_nonzero_descriptors.Facts where
  shapeCasts_S4x5x5x3x96x96_S100x3x96x96 := by decide
  shapeCasts_S100x3x96x96_S100x3x6x16x6x16 := by decide
  bcast_S_S100x6x6x512 := by decide
  shapeCasts_S100x6x6x512_S100x36x512 := by decide
  shapeCasts_S4x75x3x96x96_S300x3x96x96 := by decide
  shapeCasts_S300x3x96x96_S300x3x6x16x6x16 := by decide
  bcast_S_S300x6x6x512 := by decide
  shapeCasts_S300x6x6x512_S300x36x512 := by decide
  reducesTo_S100x36x512_S100x36_d2 := by decide
  h_S_ := by decide
  bcast_S_S100x36 := by decide
  reducesTo_S300x36x512_S300x36_d2 := by decide
  bcast_S_S300x36 := by decide
  bcast_S_S1 := by decide
  dot_S100x3x6x16x6x16_S512x3x16x16_S100x6x6x512_135_123_024_0_n_n_wf := by decide
  dot_S300x3x6x16x6x16_S512x3x16x16_S300x6x6x512_135_123_024_0_n_n_wf := by decide

/-- A truth value made a bit is one exactly when it is true. -/
theorem bit (b : Bool) : BitVec.ofBool b = 1#1 ↔ b = true := by
  cases b <;> decide

/-- An extended real below infinity in size is a real number. -/
theorem real_of_abs {x : EReal} (h : Ideal.cmp .olt (max x (-x)) (Ideal.ofBits .f32 0x7F800000#32) = 1#1) : ∃ r : ℝ, x = r := by
  have e : Ideal.ofBits .f32 0x7F800000#32 = ⊤ := by
    simp [Ideal.ofBits, Ideal.ieee, -EReal.coe_mul]
  rw [e] at h
  unfold Ideal.cmp at h
  rw [bit] at h
  have h' : max x (-x) < ⊤ := of_decide_eq_true h
  induction x using EReal.rec with
  | bot => simp at h'
  | top => simp at h'
  | coe r => exact ⟨r, rfl⟩

section

variable [hF : Cert.Pre_nonzero_descriptors.Facts]
variable (x0 : S4x5x5x3x96x96.Idx → EReal) (x1 : S4x75x3x96x96.Idx → EReal) (x2 : S512x3x16x16.Idx → EReal)
  (x3 x4 : S1.Idx → EReal) (x5 : S_.Idx → EReal)

/-- Every descriptor of a class is at least as long as the floor. -/
theorem shots (h : (fn (F := Ideal) x0 x1 x2 x3 x4 x5).1 = fun _ => 1#1) (b : Fin 4) (w : Fin 5) (r : Fin 180) :
    Norm.floor ≤ Norm.sq (Features.shot x0 x2 b w r) := by
  have e : (fn (F := Ideal) x0 x1 x2 x3 x4 x5).1 = fun i => Ideal.cmp .oge
      (Host.reduceAdd (F := Ideal) (φ := .f32) (mulf (Cert.ReferenceIdeal.Read.val_main_v5 (F := Ideal) x0 x2) (Cert.ReferenceIdeal.Read.val_main_v5 (F := Ideal) x0 x2))
        (constant S_ .f32 0x00000000#32) Facts.reducesTo_S100x36x512_S100x36_d2 Facts.h_S_ i) Norm.floor := rfl
  rw [e] at h
  have h' := congrFun h (ix2 (⟨b.val * 25 + w.val * 5 + r.val / 36, by omega⟩ : Fin 100) (⟨r.val % 36, by omega⟩ : Fin 36))
  unfold Ideal.cmp at h'
  rw [bit] at h'
  refine (of_decide_eq_true h').trans (le_of_eq ?_)
  pointwise
  simp only [Reference.row_shots x0 x2 b w (⟨r.val / 36, by omega⟩ : Fin 5)]
  have er : (⟨r.val / 36 * 36 + r.val % 36, by omega⟩ : Fin 180) = r := Fin.ext (by show r.val / 36 * 36 + r.val % 36 = r.val; omega)
  rw [er]
  rfl

/-- No patch of a query has a descriptor of length zero. -/
theorem queries (h : (fn (F := Ideal) x0 x1 x2 x3 x4 x5).2.1 = fun _ => 1#1) (b : Fin 4) (a : Fin 75) (p : Fin 36) :
    0 < Norm.sq (Features.query x1 x2 b a p) := by
  have e : (fn (F := Ideal) x0 x1 x2 x3 x4 x5).2.1 = fun i => Ideal.cmp .ogt
      (Host.reduceAdd (F := Ideal) (φ := .f32) (mulf (Cert.ReferenceIdeal.Read.val_main_v11 (F := Ideal) x1 x2) (Cert.ReferenceIdeal.Read.val_main_v11 (F := Ideal) x1 x2))
        (constant S_ .f32 0x00000000#32) Facts.reducesTo_S300x36x512_S300x36_d2 Facts.h_S_ i) (Ideal.ofBits .f32 0x00000000#32) := rfl
  rw [e] at h
  have h' := congrFun h (ix2 (⟨b.val * 75 + a.val, by omega⟩ : Fin 300) p)
  unfold Ideal.cmp at h'
  rw [bit] at h'
  have h0 := of_decide_eq_true h'
  rw [Ideal.ofBits_zero_f32] at h0
  refine h0.trans_le (le_of_eq ?_)
  pointwise
  simp only [Reference.row_queries]
  rfl

/-- The weight of the cosines is a real number. -/
theorem real_rc (h : (fn (F := Ideal) x0 x1 x2 x3 x4 x5).2.2.1 = fun _ => 1#1) : ∃ r : ℝ, x3 (ix1 (0 : Fin 1)) = r :=
  real_of_abs (congrFun h (ix1 (0 : Fin 1)))

/-- The weight of the local matches is a real number. -/
theorem real_rd (h : (fn (F := Ideal) x0 x1 x2 x3 x4 x5).2.2.2.1 = fun _ => 1#1) : ∃ r : ℝ, x4 (ix1 (0 : Fin 1)) = r :=
  real_of_abs (congrFun h (ix1 (0 : Fin 1)))

/-- The temperature is a real number. -/
theorem real_tp (h : (fn (F := Ideal) x0 x1 x2 x3 x4 x5).2.2.2.2 = fun _ => 1#1) : ∃ r : ℝ, x5 ix0 = r :=
  real_of_abs (congrFun h ix0)

end

end Cert.Proof.Precondition

end
-- ==== Proof.Algebraic.lean ====
/-
  The kernel's idealization and the reference give the same scores wherever the precondition holds.
-/
module

public import proofs.«01_k».proof.Defs
public import proofs.«01_k».proof.Proof.Gen.KernelIdeal
public import proofs.«01_k».proof.Proof.Gen.ReferenceIdeal.Run
public import proofs.«01_k».proof.Proof.KernelRun
public import proofs.«01_k».proof.Proof.Score
public import proofs.«01_k».proof.Proof.Precondition

@[expose] public section

set_option maxRecDepth 16384

noncomputable section

open Idealize.ShloMosaic Idealize.ShloMosaic.TcCoe Idealize.SL Idealize.SL.Sem

namespace Cert.Proof.Algebraic

open Cert.Proof.Host

/-- One score: the kernel's and the reference's, of the same arrays. -/
theorem score_eq [Cert.Pre_nonzero_descriptors.Facts] (x0 : (⟨6, ![4, 5, 5, 3, 96, 96]⟩ : Shape).Idx → EReal) (x1 : (⟨5, ![4, 75, 3, 96, 96]⟩ : Shape).Idx → EReal)
    (x2 : (⟨4, ![512, 3, 16, 16]⟩ : Shape).Idx → EReal) (x3 x4 : (⟨1, ![1]⟩ : Shape).Idx → EReal) (x5 : (⟨0, ![]⟩ : Shape).Idx → EReal)
    (h1 : (Cert.Pre_nonzero_descriptors.fn (F := Ideal) x0 x1 x2 x3 x4 x5).1 = fun _ => 1#1)
    (h2 : (Cert.Pre_nonzero_descriptors.fn (F := Ideal) x0 x1 x2 x3 x4 x5).2.1 = fun _ => 1#1)
    (h3 : (Cert.Pre_nonzero_descriptors.fn (F := Ideal) x0 x1 x2 x3 x4 x5).2.2.1 = fun _ => 1#1)
    (h4 : (Cert.Pre_nonzero_descriptors.fn (F := Ideal) x0 x1 x2 x3 x4 x5).2.2.2.1 = fun _ => 1#1)
    (h5 : (Cert.Pre_nonzero_descriptors.fn (F := Ideal) x0 x1 x2 x3 x4 x5).2.2.2.2 = fun _ => 1#1)
    (b : Fin 4) (a : Fin 75) (w : Fin 5) :
    KernelScore.kscore (x5 ix0 * x3 (ix1 (0 : Fin 1))) (x5 ix0 * x4 (ix1 (0 : Fin 1))) (Features.query x1 x2 b a) (Features.shot x0 x2 b w)
      = Cert.ReferenceIdeal.Read.val_main_v64 (F := Ideal) x0 x1 x2 x3 x4 x5 (ix3 b a w) := by
  obtain ⟨rc, hrc⟩ := Precondition.real_rc x0 x1 x2 x3 x4 x5 h3
  obtain ⟨rd, hrd⟩ := Precondition.real_rd x0 x1 x2 x3 x4 x5 h4
  obtain ⟨t, ht⟩ := Precondition.real_tp x0 x1 x2 x3 x4 x5 h5
  rw [Reference.result_apply, hrc, hrd, ht]
  exact Score.kscore_eq t rc rd (fun p c => Features.patch_nonneg _ _ _ _ _) (fun r c => Features.patch_nonneg _ _ _ _ _)
    (Precondition.queries x0 x1 x2 x3 x4 x5 h2 b a) (Precondition.shots x0 x1 x2 x3 x4 x5 h1 b w)

open Cert.KernelIdeal Cert.KernelIdeal.Gen in
/-- The kernel's result array is the reference's value of the kernel's arguments. -/
theorem result_eq (m : (ℓ : Loc nD τ sig) → Buf (Elt Ideal) ℓ) (ρ : Dev nD → PrngReg)
    (h : Cert.Pre_KernelIdeal_nonzero_descriptors (hPre_nonzero_descriptors := Precondition.facts) m) (c : Dev nD) :
    W7 m ρ c (Proc.devRef .tc main_v29)
      = Cert.ReferenceIdeal.Read.val_main_v64 (F := Ideal) (xs m c) (xq m c) (ws m c) (rc m c) (rd m c) (tp m c) := by
  obtain ⟨h1, h2, h3, h4, h5⟩ := h c
  refine funext fun i : S4x75x5.Idx => ?_
  obtain ⟨b, a, w, rfl⟩ : ∃ (b : Fin 4) (a : Fin 75) (w : Fin 5), i = ix3 b a w := ⟨i 0, i 1, i 2, eq_ix3 i⟩
  exact (KernelScore.result_apply m ρ c b a w).trans
    (@score_eq Precondition.facts (xs m c) (xq m c) (ws m c) (rc m c) (rd m c) (tp m c) h1 h2 h3 h4 h5 b a w)

/-- **The claim of values**: from memories agreeing on the arguments, where the precondition holds, both programs run,
keep their arguments, and end with equal scores, as extended reals. -/
theorem algebraic : Cert.algebraic_KernelIdeal_ReferenceIdeal_pre_nonzero_descriptors
    (hKernelIdeal := Cert.KernelIdeal.Gen.facts) (hReferenceIdeal := Cert.ReferenceIdeal.Gen.facts)
    (hPre_nonzero_descriptors := Precondition.facts) := by
  intro m g m' g' hpre hargs
  refine ⟨fun c => Cert.KernelIdeal.Gen.W7 m g c (Proc.devRef .tc Cert.KernelIdeal.main_v29), KernelRun.run (F := Ideal) m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, e5⟩ := hargs c
  rw [Cert.ReferenceIdeal.Read.val_main_v64_eq, e0, e1, e2, e3, e4, e5]
  exact (result_eq m g hpre c).symm

end Cert.Proof.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- All claims of this certificate. -/
theorem claim : Cert.Claim :=
  ⟨Cert.Kernel.Gen.facts, Cert.KernelIdeal.Gen.facts, Cert.ReferenceIdeal.Gen.facts, Precondition.facts,
    Frames.frame_p, Frames.frame_pi, fun m ρ _ => Frames.frame_pi m ρ trivial, Frames.frame_ri,
    fun m ρ _ => Frames.frame_ri m ρ trivial, Frames.preserves, Algebraic.algebraic⟩

end Cert.Proof

end
